-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_groups_and_rows [hPre_labels_groups_and_rows : Cert.Pre_labels_groups_and_rows.Facts] (m : (ℓ : Loc Cert.KernelIdeal.nD Cert.KernelIdeal.τ Cert.KernelIdeal.sig) → Buf (Elt Ideal) ℓ) : Prop :=
  ∀ c : Dev Cert.KernelIdeal.nD,
    (Cert.Pre_labels_groups_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_groups_and_rows [hPre_labels_groups_and_rows : Cert.Pre_labels_groups_and_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_groups_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_groups_and_rows [hKernelIdeal : Cert.KernelIdeal.Facts] [hPre_labels_groups_and_rows : Cert.Pre_labels_groups_and_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_groups_and_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_groups_and_rows [hReferenceIdeal : Cert.ReferenceIdeal.Facts] [hPre_labels_groups_and_rows : Cert.Pre_labels_groups_and_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_groups_and_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "one_eps" .f32 0x3F800001#32 ((140737502429077 / 140737488355328 : ℝ) : EReal)
  ∧ IdealRules.named_const.Statement Cert.KernelIdeal.κ "log_clip" .f32 0xC1B834F1#32 ((Real.log (14411519 / 144115188075855872) : ℝ) : EReal)
  ∧ IdealRules.named_const.Statement Cert.KernelIdeal.κ "scale" .f32 0x3523D70A#32 ((1 / 1638400 : ℝ) : EReal)

def algebraic_KernelIdeal_ReferenceIdeal_pre_labels_groups_and_rows [hKernelIdeal : Cert.KernelIdeal.Facts] [hReferenceIdeal : Cert.ReferenceIdeal.Facts] [hPre_labels_groups_and_rows : Cert.Pre_labels_groups_and_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_groups_and_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_groups_and_rows : Cert.Pre_labels_groups_and_rows.Facts),
    quiescent_Kernel (hKernel := hKernel)
    ∧ quiescent_KernelIdeal (hKernelIdeal := hKernelIdeal)
    ∧ quiescent_KernelIdeal_pre_labels_groups_and_rows (hKernelIdeal := hKernelIdeal) (hPre_labels_groups_and_rows := hPre_labels_groups_and_rows)
    ∧ quiescent_ReferenceIdeal (hReferenceIdeal := hReferenceIdeal)
    ∧ quiescent_ReferenceIdeal_pre_labels_groups_and_rows (hReferenceIdeal := hReferenceIdeal) (hPre_labels_groups_and_rows := hPre_labels_groups_and_rows)
    ∧ preserves_Kernel_KernelIdeal
    ∧ algebraic_KernelIdeal_ReferenceIdeal_pre_labels_groups_and_rows (hKernelIdeal := hKernelIdeal) (hReferenceIdeal := hReferenceIdeal) (hPre_labels_groups_and_rows := hPre_labels_groups_and_rows)
-- ==== Pre_labels_groups_and_rows.lean ====
abbrev S16384x100 : Shape := ⟨2, ![16384, 100]⟩
abbrev S16384 : Shape := ⟨1, ![16384]⟩
abbrev S100 : Shape := ⟨1, ![100]⟩
abbrev S_ : Shape := ⟨0, ![]⟩
abbrev S1x100 : Shape := ⟨2, ![1, 100]⟩
abbrev S16384x1 : Shape := ⟨2, ![16384, 1]⟩

class Facts : Prop where
  bcast_S_S16384 : S_.BroadcastsInDim S16384 (![] : Fin 0 → Fin S16384.rank)
  bcast_S100_S1x100_1 : S100.BroadcastsInDim S1x100 (![1] : Fin 1 → Fin S1x100.rank)
  bcast_S16384_S16384x1_0 : S16384.BroadcastsInDim S16384x1 (![0] : Fin 1 → Fin S16384x1.rank)
  bcast_S1x100_S16384x100_0_1 : S1x100.BroadcastsInDim S16384x100 (![0, 1] : Fin 2 → Fin S16384x100.rank)
  bcast_S16384x1_S16384x100_0_1 : S16384x1.BroadcastsInDim S16384x100 (![0, 1] : Fin 2 → Fin S16384x100.rank)
  natLt_1_32 : 1 < 32
  reducesTo_S16384x100_S16384_d1 : S16384x100.ReducesTo [1] S16384
  h_S_ : 0 < S_.numel
  reducesTo_S16384_S_d0 : S16384.ReducesTo [0] S_
  gather_S100_S16384x1_S16384_n_0_n_n_0_1_1_wf : GatherDims.WF S100 S16384x1 S16384 [] [0] [] [0] [] 1 ![1]

variable [Facts]

def gather_S100_S16384x1_S16384_n_0_n_n_0_1_1 : GatherDims S100 S16384x1 S16384 where
  offsetDims := []
  collapsedSliceDims := [0]
  operandBatchingDims := []
  startIndicesBatchingDims := []
  startIndexMap := [0]
  indexVectorDim := 1
  sliceSizes := ![1]
  wf := gather_S100_S16384x1_S16384_n_0_n_n_0_1_1_wf
def fn_part1 {F : FTy → Type} [FloatOps F] (main_arg0 : FVec F S16384x100 .f32) (main_v4 : IVec S16384 1) (main_v18 : IVec S16384 32) : IVec S_ 1 :=
  let main_c_4 : IVec S_ 32 := constantI S_ 32 5#32
  let main_v19 : IVec S16384 32 := broadcastInDim S16384 ![] bcast_S_S16384 main_c_4
  let main_v20 : IVec S16384 1 := cmpi .eq main_v18 main_v19
  let main_cst : FVec F S_ .f32 := constant S_ .f32 0xFF800000#32
  let main_v21 : FVec F S16384 .f32 := (fun x v => Host.reduce FloatOps.maximumf x v reducesTo_S16384x100_S16384_d1 h_S_) main_arg0 main_cst
  let main_v22 : FVec F S16384 .f32 := Host.absf main_v21
  let main_cst_5 : FVec F S_ .f32 := constant S_ .f32 0x7F800000#32
  let main_v23 : FVec F S16384 .f32 := broadcastInDim S16384 ![] bcast_S_S16384 main_cst_5
  let main_v24 : IVec S16384 1 := cmpf .olt main_v22 main_v23
  let main_v25 : IVec S16384 1 := andi main_v4 main_v20
  let main_v26 : IVec S16384 1 := andi main_v25 main_v24
  let main_c_6 : IVec S_ 1 := constantI S_ 1 1#1
  let main_v27 : IVec S_ 1 := (fun x v => Host.reduce IntOp.andi x v reducesTo_S16384_S_d0 h_S_) main_v26 main_c_6
  main_v27

def fn {F : FTy → Type} [FloatOps F] (main_arg0 : FVec F S16384x100 .f32) (main_arg1 : IVec S16384 32) (main_arg2 : IVec S100 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100#32
  let main_v2 : IVec S16384 32 := broadcastInDim S16384 ![] bcast_S_S16384 main_c_0
  let main_v3 : IVec S16384 1 := cmpi .slt main_arg1 main_v2
  let main_v4 : IVec S16384 1 := andi main_v1 main_v3
  let main_v5 : IVec S1x100 32 := broadcastInDim S1x100 ![1] bcast_S100_S1x100_1 main_arg2
  let main_c_1 : IVec S_ 32 := constantI S_ 32 0#32
  let main_v6 : IVec S16384 32 := broadcastInDim S16384 ![] bcast_S_S16384 main_c_1
  let main_v7 : IVec S16384 1 := cmpi .slt main_arg1 main_v6
  let main_c_2 : IVec S_ 32 := constantI S_ 32 100#32
  let main_v8 : IVec S16384 32 := broadcastInDim S16384 ![] bcast_S_S16384 main_c_2
  let main_v9 : IVec S16384 32 := addi main_arg1 main_v8
  let main_v10 : IVec S16384 32 := select main_v7 main_v9 main_arg1
  let main_v11 : IVec S16384x1 32 := broadcastInDim S16384x1 ![0] bcast_S16384_S16384x1_0 main_v10
  let main_v12 : IVec S16384 32 := (fun x i => Host.gather gather_S100_S16384x1_S16384_n_0_n_n_0_1_1 x i) main_arg2 main_v11
  let main_v13 : IVec S16384x1 32 := broadcastInDim S16384x1 ![0] bcast_S16384_S16384x1_0 main_v12
  let main_v14 : IVec S16384x100 32 := broadcastInDim S16384x100 ![0, 1] bcast_S1x100_S16384x100_0_1 main_v5
  let main_v15 : IVec S16384x100 32 := broadcastInDim S16384x100 ![0, 1] bcast_S16384x1_S16384x100_0_1 main_v13
  let main_v16 : IVec S16384x100 1 := cmpi .eq main_v14 main_v15
  let main_v17 : IVec S16384x100 32 := (extui 32 · natLt_1_32) main_v16
  let main_c_3 : IVec S_ 32 := constantI S_ 32 0#32
  let main_v18 : IVec S16384 32 := (fun x v => Host.reduce IntOp.addi x v reducesTo_S16384x100_S16384_d1 h_S_) main_v17 main_c_3
  fn_part1 (F := F) main_arg0 main_v4 main_v18
-- ==== Kernel.lean ====
abbrev S16384x100 : Shape := ⟨2, ![16384, 100]⟩
abbrev S16384 : Shape := ⟨1, ![16384]⟩
abbrev S100 : Shape := ⟨1, ![100]⟩
abbrev S100x1 : Shape := ⟨2, ![100, 1]⟩
abbrev S100x1024 : Shape := ⟨2, ![100, 1024]⟩
abbrev S1x16384 : Shape := ⟨2, ![1, 16384]⟩
abbrev S1x1 : Shape := ⟨2, ![1, 1]⟩
abbrev S_ : Shape := ⟨0, ![]⟩
abbrev S1024x100 : Shape := ⟨2, ![1024, 100]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 9
  | .vmem => 6
  | .smem => 1
  | _ => 0

abbrev bufTy : (tb : Table) → Fin (tcTables nBuf tb) → BufTy
  | .hbm, ⟨0, _⟩ => ⟨S16384x100, .f32⟩
  | .hbm, ⟨1, _⟩ => ⟨S16384, .i32⟩
  | .hbm, ⟨2, _⟩ => ⟨S100, .i32⟩
  | .hbm, ⟨3, _⟩ => ⟨S100, .f32⟩
  | .hbm, ⟨4, _⟩ => ⟨S100x1, .f32⟩
  | .hbm, ⟨5, _⟩ => ⟨S100x1024, .f32⟩
  | .hbm, ⟨6, _⟩ => ⟨S1x16384, .i32⟩
  | .hbm, ⟨7, _⟩ => ⟨S1x1, .f32⟩
  | .hbm, ⟨8, _⟩ => ⟨S_, .f32⟩
  | .local _ .vmem, ⟨0, _⟩ => ⟨S1024x100, .f32⟩
  | .local _ .vmem, ⟨1, _⟩ => ⟨S1024x100, .f32⟩
  | .local _ .vmem, ⟨2, _⟩ => ⟨S1x1024, .i32⟩
  | .local _ .vmem, ⟨3, _⟩ => ⟨S1x1024, .i32⟩
  | .local _ .vmem, ⟨4, _⟩ => ⟨S100x1024, .f32⟩
  | .local _ .vmem, ⟨5, _⟩ => ⟨S1x1024, .f32⟩
  | .local _ .smem, ⟨0, _⟩ => ⟨S1x1, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v50 : BitVec 1 := Scalar.cmpi .eq arg0 c15_i32
  let v51 : BitVec 32 := Scalar.extui v50
  let c0_i32_20 : BitVec 32 := 0#32
  let v52 : BitVec 1 := Scalar.cmpi .ne v51 c0_i32_20
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "log_clip" => some ((Real.log (14411519 / 144115188075855872) : ℝ) : EReal)
  | "one_eps" => some ((140737502429077 / 140737488355328 : ℝ) : EReal)
  | "scale" => some ((1 / 1638400 : ℝ) : EReal)
  | _ => none
-- ==== ReferenceIdeal.lean ====
abbrev S16384x100 : Shape := ⟨2, ![16384, 100]⟩
abbrev S16384 : Shape := ⟨1, ![16384]⟩
abbrev S100 : Shape := ⟨1, ![100]⟩
abbrev S_ : Shape := ⟨0, ![]⟩
abbrev S16384x1 : Shape := ⟨2, ![16384, 1]⟩
abbrev S1x100 : Shape := ⟨2, ![1, 100]⟩
abbrev S16384x5 : Shape := ⟨2, ![16384, 5]⟩
abbrev S16384x5x1 : Shape := ⟨3, ![16384, 5, 1]⟩
abbrev S1 : Shape := ⟨1, ![1]⟩
abbrev S1x1x1 : Shape := ⟨3, ![1, 1, 1]⟩
abbrev S16384x5x2 : Shape := ⟨3, ![16384, 5, 2]⟩

abbrev nBuf : Space → Nat
  | .hbm => 105
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S16384, .i32⟩
  | .hbm, ⟨2, _⟩ => ⟨S100, .i32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x100, .f32⟩
  | .hbm, ⟨10, _⟩ => ⟨S16384x100, .f32⟩
  | .hbm, ⟨11, _⟩ => ⟨S16384x100, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x100, .f32⟩
  | .hbm, ⟨16, _⟩ => ⟨S16384x100, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384, .i32⟩
  | .hbm, ⟨26, _⟩ => ⟨S16384x1, .i32⟩
  | .hbm, ⟨27, _⟩ => ⟨S1x100, .i32⟩
  | .hbm, ⟨28, _⟩ => ⟨S16384x100, .i32⟩
  | .hbm, ⟨29, _⟩ => ⟨S16384x100, .i32⟩
  | .hbm, ⟨30, _⟩ => ⟨S16384x100, .i1⟩
  | .hbm, ⟨31, _⟩ => ⟨S16384x100, .i32⟩
  | .hbm, ⟨32, _⟩ => ⟨S16384x5, .i32⟩
  | .hbm, ⟨33, _⟩ => ⟨S16384x5, .i32⟩
  | .hbm, ⟨34, _⟩ => ⟨S_, .i32⟩
  | .hbm, ⟨35, _⟩ => ⟨S16384x5, .i32⟩
  | .hbm, ⟨36, _⟩ => ⟨S16384x5, .i1⟩
  | .hbm, ⟨37, _⟩ => ⟨S_, .i32⟩
  | .hbm, ⟨38, _⟩ => ⟨S16384x5, .i32⟩
  | .hbm, ⟨39, _⟩ => ⟨S16384x5, .i32⟩
  | .hbm, ⟨40, _⟩ => ⟨S16384x5, .i32⟩
  | .hbm, ⟨41, _⟩ => ⟨S16384x5x1, .i32⟩
  | .hbm, ⟨42, _⟩ => ⟨S1, .i32⟩
  | .hbm, ⟨43, _⟩ => ⟨S_, .i32⟩
  | .hbm, ⟨44, _⟩ => ⟨S16384x5x1, .i32⟩
  | .hbm, ⟨45, _⟩ => ⟨S16384x5x1, .i1⟩
  | .hbm, ⟨46, _⟩ => ⟨S1x1x1, .i32⟩
  | .hbm, ⟨47, _⟩ => ⟨S16384x5x1, .i32⟩
  | .hbm, ⟨48, _⟩ => ⟨S16384x5x1, .i1⟩
  | .hbm, ⟨49, _⟩ => ⟨S16384x5x1, .i1⟩
  | .hbm, ⟨50, _⟩ => ⟨S_, .i1⟩
  | .hbm, ⟨51, _⟩ => ⟨S16384x5, .i1⟩
  | .hbm, ⟨52, _⟩ => ⟨S16384x5, .f32⟩
  | .hbm, ⟨53, _⟩ => ⟨S_, .f32⟩
  | .hbm, ⟨54, _⟩ => ⟨S16384x5, .f32⟩
  | .hbm, ⟨55, _⟩ => ⟨S16384x5, .f32⟩
  | .hbm, ⟨56, _⟩ => ⟨S_, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S16384x1, .f32⟩
  | .hbm, ⟨65, _⟩ => ⟨S16384x100, .f32⟩
  | .hbm, ⟨66, _⟩ => ⟨S16384x100, .f32⟩
  | .hbm, ⟨67, _⟩ => ⟨S_, .f32⟩
  | .hbm, ⟨68, _⟩ => ⟨S_, .f32⟩
  | .hbm, ⟨69, _⟩ => ⟨S16384x100, .f32⟩
  | .hbm, ⟨70, _⟩ => ⟨S16384x100, .f32⟩
  | .hbm, ⟨71, _⟩ => ⟨S16384x100, .f32⟩
  | .hbm, ⟨72, _⟩ => ⟨S_, .f32⟩
  | .hbm, ⟨73, _⟩ => ⟨S16384x100, .f32⟩
  | .hbm, ⟨74, _⟩ => ⟨S16384, .i32⟩
  | .hbm, ⟨75, _⟩ => ⟨S16384x1, .i32⟩
  | .hbm, ⟨76, _⟩ => ⟨S_, .i32⟩
  | .hbm, ⟨77, _⟩ => ⟨S16384x1, .i32⟩
  | .hbm, ⟨78, _⟩ => ⟨S16384x1, .i1⟩
  | .hbm, ⟨79, _⟩ => ⟨S_, .i32⟩
  | .hbm, ⟨80, _⟩ => ⟨S16384x1, .i32⟩
  | .hbm, ⟨81, _⟩ => ⟨S16384x1, .i32⟩
  | .hbm, ⟨82, _⟩ => ⟨S16384x1, .i32⟩
  | .hbm, ⟨83, _⟩ => ⟨S_, .i32⟩
  | .hbm, ⟨84, _⟩ => ⟨S16384x5, .i32⟩
  | .hbm, ⟨85, _⟩ => ⟨S16384x5, .i1⟩
  | .hbm, ⟨86, _⟩ => ⟨S_, .i32⟩
  | .hbm, ⟨87, _⟩ => ⟨S16384x5, .i32⟩
  | .hbm, ⟨88, _⟩ => ⟨S16384x5, .i32⟩
  | .hbm, ⟨89, _⟩ => ⟨S16384x5, .i32⟩
  | .hbm, ⟨90, _⟩ => ⟨S16384x5, .i32⟩
  | .hbm, ⟨91, _⟩ => ⟨S16384x5x1, .i32⟩
  | .hbm, ⟨92, _⟩ => ⟨S16384x5x1, .i32⟩
  | .hbm, ⟨93, _⟩ => ⟨S16384x5x2, .i32⟩
  | .hbm, ⟨94, _⟩ => ⟨S_, .f32⟩
  | .hbm, ⟨95, _⟩ => ⟨S16384x5, .f32⟩
  | .hbm, ⟨96, _⟩ => ⟨S16384x100, .f32⟩
  | .hbm, ⟨97, _⟩ => ⟨S16384x100, .f32⟩
  | .hbm, ⟨98, _⟩ => ⟨S16384x100, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_values : Ref sig .tc := ⟨.hbm, 32, rfl⟩
abbrev main_indices : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_cst : Ref sig .tc := ⟨.hbm, 53, rfl⟩
abbrev main_call0_v14 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_cst_4 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_call1_v0 : Ref sig .tc := ⟨.hbm, 68, rfl⟩
abbrev main_call1_v1 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_8 : Ref sig .tc := ⟨.hbm, 76, rfl⟩
abbrev main_v38 : Ref sig .tc := ⟨.hbm, 77, rfl⟩
abbrev main_v39 : Ref sig .tc := ⟨.hbm, 78, rfl⟩
abbrev main_c_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_10 : Ref sig .tc := ⟨.hbm, 83, rfl⟩
abbrev main_v43 : Ref sig .tc := ⟨.hbm, 84, rfl⟩
abbrev main_v44 : Ref sig .tc := ⟨.hbm, 85, rfl⟩
abbrev main_c_11 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_12 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_13 : Ref sig .tc := ⟨.hbm, 99, rfl⟩
abbrev main_v56 : Ref sig .tc := ⟨.hbm, 100, rfl⟩
abbrev main_cst_14 : Ref sig .tc := ⟨.hbm, 101, rfl⟩
abbrev main_v57 : Ref sig .tc := ⟨.hbm, 102, rfl⟩
abbrev main_cst_15 : Ref sig .tc := ⟨.hbm, 103, rfl⟩
abbrev main_v58 : Ref sig .tc := ⟨.hbm, 104, rfl⟩

abbrev nD : Nat := 1
abbrev τ : Topo := Topo.v7x

variable {F : FTy → Type} [FloatOps F]
-- ==== Proof.Cases.lean ====
/- What the kernel's body leaves at one grid point, as functions of the point's blocks.

   The body stores the accumulator at every point (`sum_A`, `sum_B`, `sum_C`: the first point starts it from zero, the
   others from what the point before left) and the result at the last point only (`out_C`: the sum of the accumulator's lanes). -/
module

public import proofs.«01_k».proof.Proof.Gen.KernelIdeal.Frame
public import Idealize.ShloMosaic.Lib.Pipeline.Value

@[expose] public section

noncomputable section

open Idealize.ShloMosaic Idealize.ShloMosaic.TcCoe Idealize.SL.Sem

namespace Cert.KernelIdeal.Value

open Cert.KernelIdeal Cert.KernelIdeal.Gen

variable {F : FTy → Type} [FloatOps F] [Named F]

/-- The all-zero offsets of a block. -/
theorem zero2 : (![0, 0] : Fin 2 → Nat) = fun _ => 0 := funext fun a => by fin_cases a <;> rfl

/-- The first point leaves in the accumulator: zero plus the scaled row losses of its blocks. -/
theorem sum_A (c : Dev nD) (i : grid0.Coords) (a1 : Memref sig .tc .vmem S1024x100 .f32) (h1 : a1.IsWhole)
    (a2 : Memref sig .tc .vmem S1x1024 .i32) (h2 : a2.IsWhole) (a3 : Memref sig .tc .vmem S100x1024 .f32) (h3 : a3.IsWhole)
    (a4 : Memref sig .tc .smem S1x1 .f32) (h4 : a4.IsWhole) (a5 : Memref sig .tc .vmem S1x1024 .f32) (h5 : a5.IsWhole)
    (hc0 : cond0_0 i) (hc1 : ¬cond0_1 i) (x : Vec F S1024x100 .f32) (y : Vec F S1x1024 .i32) (f : Vec F S100x1024 .f32) :
    sout0_A_0 c i a1 h1 a2 h2 a3 h3 a4 h4 a5 h5 hc0 hc1 x y f = k0_pay2 (k0_pay4 x y f) k0_pay1 := by
  unfold sout0_A_0
  rw [View.read_writes_eq_canon _ _ _ (scover0_A_0 c i a1 h1 a2 h2 a3 h3 a4 h4 a5 h5 hc0 hc1 x y f)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, View.ld_unit_zero (S := S1024x100) zero2,
    View.ld_unit_zero (S := S1x1024) zero2, View.ld_unit_zero (S := S100x1024) zero2]

/-- A middle point adds the scaled row losses of its blocks to the accumulator. -/
theorem sum_B (c : Dev nD) (i : grid0.Coords) (a1 : Memref sig .tc .vmem S1024x100 .f32) (h1 : a1.IsWhole)
    (a2 : Memref sig .tc .vmem S1x1024 .i32) (h2 : a2.IsWhole) (a3 : Memref sig .tc .vmem S100x1024 .f32) (h3 : a3.IsWhole)
    (a4 : Memref sig .tc .smem S1x1 .f32) (h4 : a4.IsWhole) (a5 : Memref sig .tc .vmem S1x1024 .f32) (h5 : a5.IsWhole)
    (hc0 : ¬cond0_0 i) (hc1 : ¬cond0_1 i) (x : Vec F S1024x100 .f32) (y : Vec F S1x1024 .i32) (f : Vec F S100x1024 .f32)
    (acc : Vec F S1x1024 .f32) :
    sout0_B_0 c i a1 h1 a2 h2 a3 h3 a4 h4 a5 h5 hc0 hc1 x y f acc = k0_pay2 (k0_pay4 x y f) acc := by
  unfold sout0_B_0
  rw [View.read_writes_eq_canon _ _ _ (scover0_B_0 c i a1 h1 a2 h2 a3 h3 a4 h4 a5 h5 hc0 hc1 x y f acc)]
  unfold kernelRun0_B
  dsimp only
  sl_unfold_words
  rw [View.canon_unit_zero zero2]
  simp only [View.readAt_eq_ld, h1.read_unread, h2.read_unread, h3.read_unread, h5.read_unread,
    View.ld_unit_zero (S := S1024x100) zero2,
    View.ld_unit_zero (S := S1x1024) zero2, View.ld_unit_zero (S := S100x1024) zero2]

/-- So does the last point. -/
theorem sum_C (c : Dev nD) (i : grid0.Coords) (a1 : Memref sig .tc .vmem S1024x100 .f32) (h1 : a1.IsWhole)
    (a2 : Memref sig .tc .vmem S1x1024 .i32) (h2 : a2.IsWhole) (a3 : Memref sig .tc .vmem S100x1024 .f32) (h3 : a3.IsWhole)
    (a4 : Memref sig .tc .smem S1x1 .f32) (h4 : a4.IsWhole) (a5 : Memref sig .tc .vmem S1x1024 .f32) (h5 : a5.IsWhole)
    (hc0 : ¬cond0_0 i) (hc1 : cond0_1 i) (x : Vec F S1024x100 .f32) (y : Vec F S1x1024 .i32) (f : Vec F S100x1024 .f32)
    (acc : Vec F S1x1024 .f32) :
    sout0_C_0 c i a1 h1 a2 h2 a3 h3 a4 h4 a5 h5 hc0 hc1 x y f acc = k0_pay2 (k0_pay4 x y f) acc := by
  unfold sout0_C_0
  rw [View.read_writes_eq_canon _ _ _ (scover0_C_0 c i a1 h1 a2 h2 a3 h3 a4 h4 a5 h5 hc0 hc1 x y f acc)]
  unfold kernelRun0_C
  dsimp only
  sl_unfold_words
  rw [View.canon_unit_zero zero2]
  simp only [View.readAt_eq_ld, h1.read_unread, h2.read_unread, h3.read_unread, h5.read_unread,
    View.ld_unit_zero (S := S1024x100) zero2,
    View.ld_unit_zero (S := S1x1024) zero2, View.ld_unit_zero (S := S100x1024) zero2]

/-- The last point stores in the result the sum of the lanes of the accumulator it has just written. -/
theorem out_C (c : Dev nD) (i : grid0.Coords) (a1 : Memref sig .tc .vmem S1024x100 .f32) (h1 : a1.IsWhole)
    (a2 : Memref sig .tc .vmem S1x1024 .i32) (h2 : a2.IsWhole) (a3 : Memref sig .tc .vmem S100x1024 .f32) (h3 : a3.IsWhole)
    (a4 : Memref sig .tc .smem S1x1 .f32) (h4 : a4.IsWhole) (a5 : Memref sig .tc .vmem S1x1024 .f32) (h5 : a5.IsWhole)
    (hc0 : ¬cond0_0 i) (hc1 : cond0_1 i) (x : Vec F S1024x100 .f32) (y : Vec F S1x1024 .i32) (f : Vec F S100x1024 .f32)
    (acc : Vec F S1x1024 .f32) :
    out0_C_3 c i a1 h1 a2 h2 a3 h3 a4 h4 a5 h5 hc0 hc1 x y f acc
      = fun _ => k0_pay3 (k0_pay2 (k0_pay4 x y f) acc) := by
  unfold out0_C_3
  rw [View.read_writes_eq_canon _ _ _ (cover0_C_3 c i a1 h1 a2 h2 a3 h3 a4 h4 a5 h5 hc0 hc1 x y f acc)]
  unfold kernelRun0_C
  dsimp only
  sl_unfold_words
  rw [View.canon_unit_zero zero2, View.readCov_unit_zero (S := S1x1024) _ zero2]
  simp only [View.readAt_eq_ld, h1.read_unread, h2.read_unread, h3.read_unread, h5.read_unread,
    View.ld_unit_zero (S := S1024x100) zero2,
    View.ld_unit_zero (S := S1x1024) zero2, View.ld_unit_zero (S := S100x1024) zero2]
  rfl

end Cert.KernelIdeal.Value

end
-- ==== Proof.RowMath.lean ====
/- The mathematics of one row, over the extended reals.

   A row of scores `a` and the set `g` of the classes in the label's coarse group give a number in two ways: the
   kernel's (`kRow`: one division at the end, the logarithm as a difference) and the problem's (`rRow`: the softmax,
   divided by the mass outside the group, times its clipped logarithm). `kRow_eq_rRow` says that they agree, and are a real
   number, whenever the row's greatest score is finite; single scores may be `-∞`. -/
module

public import Idealize.ShloMosaic.PureOps.Ideal
public import Mathlib.Analysis.SpecialFunctions.Log.Basic

@[expose] public section

noncomputable section

namespace Cert.RowMath

open Idealize.ShloMosaic
open scoped BigOperators

variable {n : ℕ}

/-- The pattern `0xFF800000` denotes `-∞`. -/
theorem ofBits_negInf : Ideal.ofBits .f32 0xFF800000#32 = ⊥ := by simp [Ideal.ofBits, Ideal.ieee]

/-- The greatest score of the row (`-∞` for an empty row). -/
def top (a : Fin n → EReal) : EReal := Finset.univ.fold max ⊥ a

/-- A score less the greatest one. -/
def shift (a : Fin n → EReal) (c : Fin n) : EReal := a c - top a

/-- The exponential of a shifted score. -/
def weight (a : Fin n → EReal) (c : Fin n) : EReal := Ideal.exp (shift a c)

/-- The sum of the row's exponentials. -/
def mass (a : Fin n → EReal) : EReal := ∑ c, weight a c

/-- The part of the sum that lies in the group, as a masked sum. -/
def groupMass (a : Fin n → EReal) (g : Fin n → Prop) [DecidablePred g] : EReal := ∑ c, if g c then weight a c else 0

/-- The kernel's denominator: the sum times `p` (which is `1 + ε`) less the group's part. -/
def rest (p : EReal) (a : Fin n → EReal) (g : Fin n → Prop) [DecidablePred g] : EReal := mass a * p - groupMass a g

/-- What the kernel computes of a row; `l` is the logarithm of the clip. -/
def kRow (p l : EReal) (a : Fin n → EReal) (g : Fin n → Prop) [DecidablePred g] : EReal :=
  Ideal.div (∑ c, if g c then 0 else weight a c * max (shift a c - Ideal.log (rest p a g)) l) (rest p a g)

/-- The softmax of a row. -/
def prob (a : Fin n → EReal) (c : Fin n) : EReal := Ideal.div (weight a c) (mass a)

/-- The reference's renormalised probability: the softmax over one less the group's probability plus `e`. -/
def scaled (e : EReal) (a : Fin n → EReal) (g : Fin n → Prop) [DecidablePred g] (c : Fin n) : EReal :=
  Ideal.div (prob a c) (1 - (∑ k, if g k then prob a k else 0) + e)

/-- The reference's summand at class `c`: `q · log (max d q)` outside the group, nothing inside; `d` is the clip. -/
def rTerm (e d : EReal) (a : Fin n → EReal) (g : Fin n → Prop) [DecidablePred g] (c : Fin n) : EReal :=
  scaled e a g c * Ideal.log (max d (scaled e a g c)) * (if g c then 0 else 1)

/-- What the reference computes of a row. -/
def rRow (e d : EReal) (a : Fin n → EReal) (g : Fin n → Prop) [DecidablePred g] : EReal := ∑ c, rTerm e d a g c

/-- The class a label word names, for a label from 0 to 99. -/
def classOf (y : BitVec 32) : Fin 100 := if h : y.toNat < 100 then ⟨y.toNat, h⟩ else 0

/-- Class `k` has the coarse class of the class the label names. -/
def SameGroup (f : Fin 100 → BitVec 32) (y : BitVec 32) (k : Fin 100) : Prop := f k = f (classOf y)

instance (f : Fin 100 → BitVec 32) (y : BitVec 32) : DecidablePred (SameGroup f y) := fun k =>
  inferInstanceAs (Decidable (f k = f (classOf y)))

/-- The kernel's number depends on the group only as a set. -/
theorem kRow_congr (p l : EReal) (a : Fin n → EReal) (g g' : Fin n → Prop) {_ : DecidablePred g} {_ : DecidablePred g'}
    (h : ∀ c, g c ↔ g' c) : kRow p l a g = kRow p l a g' := by
  obtain rfl : g = g' := funext fun c => propext (h c)
  congr

/-- Dividing a real by a nonzero real is real division. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The logarithm of a positive real is the real logarithm. -/
theorem log_coe (x : ℝ) (hx : 0 < x) : Ideal.log (x : EReal) = ((Real.log x : ℝ) : EReal) := by
  show (if x ≤ 0 then ⊥ else ((Real.log x : ℝ) : EReal)) = _
  rw [if_neg (not_le.2 hx)]

/-- The greater of two reals, among the extended reals. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- A finite sum of reals, among the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- No score exceeds the greatest. -/
theorem le_top (a : Fin n → EReal) (c : Fin n) : a c ≤ top a :=
  (Finset.le_fold_max (a c)).2 (.inr ⟨c, Finset.mem_univ c, le_rfl⟩)

/-- The greatest score is a score, unless it is `-∞`. -/
theorem exists_eq_top (a : Fin n → EReal) (h : top a ≠ ⊥) : ∃ c, a c = top a := by
  have h1 : top a ≤ Finset.univ.fold max ⊥ a := le_rfl
  rcases (Finset.le_fold_max (top a)).1 h1 with h2 | ⟨c, -, hc⟩
  · exact absurd (le_bot_iff.1 h2) h
  · exact ⟨c, le_antisymm (le_top a c) hc⟩

/-- In a row whose greatest score is the real `M`, every exponential is a real number at least zero; it is zero exactly where the
    score is `-∞`, and elsewhere the shifted score is its logarithm. -/
theorem weight_real (a : Fin n → EReal) (M : ℝ) (hM : top a = M) (c : Fin n) :
    ∃ e : ℝ, 0 ≤ e ∧ weight a c = e ∧ (e = 0 ∧ shift a c = ⊥ ∨ 0 < e ∧ shift a c = ((Real.log e : ℝ) : EReal)) := by
  have hle : a c ≤ M := hM ▸ le_top a c
  unfold weight shift
  rw [hM]
  rcases h : a c with _ | _ | x
  · have hb : (⊥ : EReal) - (M : EReal) = ⊥ := EReal.bot_sub _
    refine ⟨0, le_rfl, ?_, .inl ⟨rfl, hb⟩⟩
    show Ideal.exp ((⊥ : EReal) - (M : EReal)) = _; rw [hb]; rfl
  · rw [h] at hle; exact absurd hle (not_le.2 (EReal.coe_lt_top M))
  · have hx : (x : EReal) - (M : EReal) = ((x - M : ℝ) : EReal) := (EReal.coe_sub x M).symm
    refine ⟨Real.exp (x - M), (Real.exp_pos _).le, ?_, .inr ⟨Real.exp_pos _, ?_⟩⟩
    · show Ideal.exp ((x : EReal) - (M : EReal)) = _; rw [hx]; rfl
    · show (x : EReal) - (M : EReal) = _; rw [hx, Real.log_exp]

/-- The kernel's number for a row is the reference's, and it is a real number, when the row's greatest score is finite. -/
theorem kRow_eq_rRow (ε δ : ℝ) (hε : 0 < ε) (hδ : 0 < δ) (a : Fin n → EReal) (g : Fin n → Prop) [DecidablePred g]
    (h1 : top a ≠ ⊥) (h2 : top a ≠ ⊤) :
    ∃ v : ℝ, kRow ((1 + ε : ℝ) : EReal) ((Real.log δ : ℝ) : EReal) a g = v ∧ rRow (ε : EReal) (δ : EReal) a g = v := by
  obtain ⟨M, hM⟩ : ∃ M : ℝ, top a = M := ⟨(top a).toReal, (EReal.coe_toReal h2 h1).symm⟩
  choose e he0 hw hs using weight_real a M hM
  -- the sum of the exponentials is at least one
  obtain ⟨c₀, hc₀⟩ := exists_eq_top a h1
  have hone : e c₀ = 1 := by
    have : weight a c₀ = ((1 : ℝ) : EReal) := by
      unfold weight shift
      rw [hc₀, hM, ← EReal.coe_sub, sub_self]
      show ((Real.exp 0 : ℝ) : EReal) = _
      rw [Real.exp_zero]
    exact EReal.coe_injective ((hw c₀).symm.trans this)
  set z : ℝ := ∑ c, e c with hz
  have hz1 : 0 < z := by
    have : e c₀ ≤ z := Finset.single_le_sum (fun c _ => he0 c) (Finset.mem_univ c₀)
    linarith
  set s : ℝ := ∑ c, if g c then e c else 0 with hsdef
  have hsz : s ≤ z := Finset.sum_le_sum fun c _ => by split; exacts [le_rfl, he0 c]
  set w : ℝ := z * (1 + ε) - s with hwdef
  have hwpos : 0 < w := by nlinarith
  have hmass : mass a = z := by
    unfold mass; rw [hz, ← sum_coe]; exact Finset.sum_congr rfl fun c _ => hw c
  have hgroup : groupMass a g = s := by
    unfold groupMass; rw [hsdef, ← sum_coe]
    exact Finset.sum_congr rfl fun c _ => by rw [hw c]; split <;> simp
  have hrest : rest ((1 + ε : ℝ) : EReal) a g = w := by
    unfold rest; rw [hmass, hgroup, ← EReal.coe_mul, ← EReal.coe_sub]
  have hlog : ∀ c, weight a c * max (shift a c - Ideal.log (w : EReal)) ((Real.log δ : ℝ) : EReal)
      = ((e c * max (Real.log (e c) - Real.log w) (Real.log δ) : ℝ) : EReal) := by
    intro c
    rw [hw c, log_coe w hwpos]
    rcases hs c with ⟨h0, -⟩ | ⟨-, h0⟩
    · rw [h0]; simp
    · rw [h0, ← EReal.coe_sub, max_coe, ← EReal.coe_mul]
  refine ⟨(∑ c, if g c then 0 else e c * max (Real.log (e c) - Real.log w) (Real.log δ)) / w, ?_, ?_⟩
  · unfold kRow
    rw [hrest, ← div_coe _ _ hwpos.ne', ← sum_coe]
    congr 1
    refine Finset.sum_congr rfl fun c _ => ?_
    rw [hlog c]; split <;> simp
  · have hprob : ∀ c, prob a c = ((e c / z : ℝ) : EReal) := fun c => by
      unfold prob; rw [hw c, hmass, div_coe _ _ hz1.ne']
    have hden : 1 - (∑ k, if g k then prob a k else 0) + (ε : EReal) = ((w / z : ℝ) : EReal) := by
      have : (∑ k, if g k then prob a k else 0) = ((s / z : ℝ) : EReal) := by
        rw [hsdef, Finset.sum_div, ← sum_coe]
        exact Finset.sum_congr rfl fun k _ => by rw [hprob k]; split <;> simp
      rw [this, ← EReal.coe_one, ← EReal.coe_sub, ← EReal.coe_add]
      congr 1; rw [hwdef]; field_simp; ring
    have hsc : ∀ c, scaled (ε : EReal) a g c = ((e c / w : ℝ) : EReal) := fun c => by
      unfold scaled; rw [hden, hprob c, div_coe _ _ (div_pos hwpos hz1).ne']
      congr 1; field_simp
    unfold rRow
    rw [Finset.sum_div, ← sum_coe]
    refine Finset.sum_congr rfl fun c _ => ?_
    unfold rTerm
    rw [hsc c, max_coe, log_coe _ (lt_max_of_lt_left hδ)]
    split
    · simp
    · rw [mul_one, ← EReal.coe_mul]
      congr 1
      rcases hs c with ⟨h0, -⟩ | ⟨h0, -⟩
      · rw [h0]; simp
      · have : Real.log (max δ (e c / w)) = max (Real.log (e c) - Real.log w) (Real.log δ) := by
          rw [← Real.log_div h0.ne' hwpos.ne', max_comm]
          rcases le_total δ (e c / w) with h | h
          · rw [max_eq_left h, max_eq_left (Real.log_le_log hδ h)]
          · rw [max_eq_right h, max_eq_right (Real.log_le_log (div_pos h0 hwpos) h)]
        rw [this]; ring

end Cert.RowMath

end
-- ==== Proof.Payload.lean ====
/- The kernel's arithmetic on one block, element by element.

   A block is 1024 rows of scores, their labels, and the coarse class of each of the 100 fine classes (repeated along the
   lanes). Lane `l` of the block's row losses is `kRow` (RowMath) of row `l` (`rowLoss`); the accumulator gains it times
   the scale (`addRow`); the result is the sum of the accumulator's lanes (`sumLanes`). -/
module

public import proofs.«01_k».proof.Proof.RowMath
public import proofs.«01_k».proof.Proof.Gen.KernelIdeal.Skeleton
public import Idealize.ShloMosaic.Lib.Pointwise

@[expose] public section

noncomputable section

open Idealize.ShloMosaic Idealize.ShloMosaic.TcCoe

namespace Cert.KernelIdeal.Value

open Cert.KernelIdeal Cert.KernelIdeal.Gen Cert.RowMath

/-- `1 + ε`, the first named constant. -/
def oneEps : EReal := ((140737502429077 / 140737488355328 : ℝ) : EReal)

/-- The logarithm of the clip, the second. -/
def logClip : EReal := ((Real.log (14411519 / 144115188075855872) : ℝ) : EReal)

/-- One over the number of scores, the third. -/
def scale : EReal := ((1 / 1638400 : ℝ) : EReal)

/-- The coarse class of a label, as the kernel takes it: the sum over the fine classes of the coarse class where the fine class
    is the label. -/
def pick (y : BitVec 32) (f : Fin 100 → EReal) : EReal := ∑ k, if BitVec.ofNat 32 k.val = y then f k else 0

/-- Lane `l` of a block's row losses is the kernel's number for row `l`, the group being the fine classes whose coarse class
    is the label's. -/
theorem rowLoss (x : Vec Ideal S1024x100 .f32) (y : Vec Ideal S1x1024 .i32) (f : Vec Ideal S100x1024 .f32) (r : Fin 1)
    (l : Fin 1024) :
    k0_pay4 x y f (ix2 r l)
      = kRow oneEps logClip (fun c : Fin 100 => x (ix2 l c)) (fun c => f (ix2 c l) = pick (y (ix2 0 l)) fun k => f (ix2 k l)) := by
  have hsel : ∀ k : Fin 100, Scalar.select (IntOp.cmpi CmpIPredicate.eq (BitVec.ofNat 32 k.val) (y (ix2 0 l))) (f (ix2 k l)) (0 : EReal)
      = if BitVec.ofNat 32 k.val = y (ix2 0 l) then f (ix2 k l) else 0 := by
    intro k
    by_cases h : BitVec.ofNat 32 k.val = y (ix2 0 l)
    · simp [Scalar.select, IntOp.cmpi, h]
    · simp [Scalar.select, IntOp.cmpi, beq_eq_false_iff_ne.2 h, h]
  pointwise [k0_pay4]
  simp only [hsel, ofBits_negInf]
  rfl

/-- The accumulator gains the row loss times the scale. -/
theorem addRow (v acc : Vec Ideal S1x1024 .f32) (r : Fin 1) (l : Fin 1024) :
    k0_pay2 v acc (ix2 r l) = acc (ix2 r l) + v (ix2 r l) * scale := by
  pointwise [k0_pay2]
  rfl

/-- The accumulator starts at zero. -/
theorem zeroRow (r : Fin 1) (l : Fin 1024) : k0_pay1 (F := Ideal) (ix2 r l) = 0 := by
  pointwise [k0_pay1]

/-- The kernel's result is the sum of the accumulator's lanes. -/
theorem sumLanes (acc : Vec Ideal S1x1024 .f32) : k0_pay3 acc = ∑ l : Fin 1024, acc (ix2 0 l) := by
  pointwise [k0_pay3]
  exact Fintype.sum_unique _

end Cert.KernelIdeal.Value

end
-- ==== Proof.KernelRun.lean ====
/- What the kernel's result array holds after the run.

   The accumulator after point `n` holds, in each lane, the sum of the scaled row losses of the points up to `n` (`acc_eq`, by
   induction on the point); the last point writes the sum of its lanes (`out_eq`), which the result array ends with (`final_out`)
   and the host line after the kernel passes on as the program's result (`run`). -/
module

public import proofs.«01_k».proof.Proof.Cases
public import proofs.«01_k».proof.Proof.Payload
public import Idealize.ShloMosaic.Lib.StableHlo.RunRead

@[expose] public section

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.RowMath

variable (m : (ℓ : Loc nD τ sig) → Buf (Elt Ideal) ℓ) (ρ : Dev nD → PrngReg)

/-- The row loss at lane `l` of point `t`'s blocks (zero past the grid). -/
def lossAt (c : Dev nD) (l : Fin 1024) (t : ℕ) : EReal :=
  if h : t < cfg0.N then k0_pay4 (iblk m c 0 ⟨t, h⟩) (iblk m c 1 ⟨t, h⟩) (iblk m c 2 ⟨t, h⟩) (ix2 0 l) else 0

/-- After point `n` lane `l` of the accumulator is the sum of the scaled row losses of points `0 … n`. -/
theorem acc_eq (c : Dev nD) (l : Fin 1024) :
    ∀ (n : ℕ) (h : n < cfg0.N), (outsAt0 m c n h).2 (ix2 0 l) = ∑ t ∈ Finset.range (n + 1), lossAt m c l t * scale
  | 0, h => by
    rw [show outsAt0 m c 0 h = _ from outsAt0_A m c ⟨0, h⟩ rfl (show ¬0 % 16 = 15 by decide)]
    dsimp only
    rw [sum_A, addRow, zeroRow, zero_add, Finset.sum_range_one, lossAt, dif_pos h]
  | n + 1, h => by
    have hN : n + 1 < 16 := lt_of_lt_of_eq h N_0
    have h0 : ¬(⟨n + 1, h⟩ : Fin cfg0.N).val % 16 = 0 := by dsimp only; omega
    rw [Finset.sum_range_succ, ← acc_eq c l n (Nat.lt_of_succ_lt h), lossAt, dif_pos h]
    by_cases h1 : (⟨n + 1, h⟩ : Fin cfg0.N).val % 16 = 15
    · rw [show outsAt0 m c (n + 1) h = _ from outsAt0_C m c ⟨n + 1, h⟩ h0 h1]
      dsimp only
      rw [sum_C, addRow]
      rfl
    · rw [show outsAt0 m c (n + 1) h = _ from outsAt0_B m c ⟨n + 1, h⟩ h0 h1]
      dsimp only
      rw [sum_B, addRow]
      rfl

/-- The sum over the lanes and the points of the scaled row losses. -/
def total (c : Dev nD) : EReal := ∑ l : Fin 1024, ∑ t ∈ Finset.range 16, lossAt m c l t * scale

/-- The last point leaves the total in the result's buffer. -/
theorem out_eq (c : Dev nD) (t : Fin cfg0.N) (ht : t.val % 16 = 15) :
    (outsAt0 m c t.val t.isLt).1 = fun _ => total m c := by
  have hN : t.val < 16 := lt_of_lt_of_eq t.isLt N_0
  have h0 : ¬t.val % 16 = 0 := by omega
  have h15 : t.val = 15 := by omega
  have hsum : ∀ l, (outsAt0 m c t.val t.isLt).2 (ix2 0 l) = ∑ t ∈ Finset.range 16, lossAt m c l t * scale := fun l => by
    rw [acc_eq m c l t.val t.isLt, h15]
  rw [outsAt0_C m c t h0 ht] at hsum ⊢
  dsimp only at hsum ⊢
  rw [out_C]
  funext _
  rw [sumLanes, total]
  refine Finset.sum_congr rfl fun l _ => ?_
  rw [← hsum l, sum_C]

/-- The one write-back is of the total. -/
theorem flushed_out (c : Dev nD) (t : Fin cfg0.N) (hf : (cfg0.win 3).flush t = true) :
    (dats m 0 c).flushed 3 t = ((cfg0.win 3).blk t).view.read (Elt Ideal) (fun _ => total m c) := by
  show (cfg0.win 3).cut (grid0.coords t) ((dats m 0 c).after 3 t) = _
  rw [after0_3, out_eq m c t ((flush0_3 t).1 hf)]
  funext j
  rw [View.read_apply]
  rfl

/-- The last point of the grid. -/
def last : Fin cfg0.N := ⟨15, by rw [show cfg0.N = 16 from N_0]; decide⟩

/-- The result array ends holding the total. -/
theorem final_out (c : Dev nD) : (dats m 0 c).arrAt 3 cfg0.N = fun _ => total m c :=
  (dats m 0 c).arrAt_eq_of_cover 3 (fun _ => total m c) (flushed_out m c) fun i =>
    ⟨last, (flush0_3 last).2 rfl, by
      show i ∈ ((View.whole main_call0_v4).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index last 0 * win0_3.size 0 ≤ (i 0 : Nat) ∧ (i 0 : Nat) < win0_3.index last 0 * win0_3.size 0 + win0_3.xsize (grid0.coords last) 0
        rw [show win0_3.index last 0 * win0_3.size 0 = 0 from by decide +kernel, show win0_3.xsize (grid0.coords last) 0 = 1 from by decide +kernel]; omega
      | ⟨1, _⟩ =>
        show win0_3.index last 1 * win0_3.size 1 ≤ (i 1 : Nat) ∧ (i 1 : Nat) < win0_3.index last 1 * win0_3.size 1 + win0_3.xsize (grid0.coords last) 1
        rw [show win0_3.index last 1 * win0_3.size 1 = 0 from by decide +kernel, show win0_3.xsize (grid0.coords last) 1 = 1 from by decide +kernel]; omega⟩

/-- The host line after the kernel passes the result array on: the program's result is the total. -/
theorem tail_eq (c : Dev nD) : Pipeline.afterTail₀ cfgs (dats m) 0 (V0 m) [hostOps1] c main_v0 = fun _ => total m c := by
  have hw := Pipeline.withArrays_arr (cfgs 0).spec (by decide) c (V0 m c) (fun w => (dats m 0 c).arrAt w cfg0.N) 3
  have e : Pipeline.withArrays (cfgs 0).spec c (V0 m c) (fun w => (dats m 0 c).arrAt w cfg0.N)
      (Proc.devRef .tc main_call0_v4) = fun _ => total m c := hw.trans (final_out m c)
  unfold Pipeline.afterTail₀
  simp only [List.flatten_cons, List.flatten_nil, List.append_nil, hostOps1]
  open Idealize.ShloMosaic.StableHlo in
  after_results
  funext j
  rw [e]
  rfl

/-- The run, read: the result is the total and the arguments are unchanged. -/
theorem run : θ_run defs (onTc (τ := τ) (main (F := Ideal))) ⟨m, fun _ => 0, ρ⟩ fun r => ∀ c : Dev nD,
      r.2.mem ((c : Thread nD τ).loc main_v0) = (fun _ => total m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Value

end
-- ==== Proof.Blocks.lean ====
/- What the kernel's blocks hold, in terms of the program's arguments.

   Point `t` reads rows `1024·t … 1024·t + 1023` of the scores and their labels, and the coarse classes of all fine classes (as
   floats, the same in every lane). So the row loss at lane `l` of point `t` is the kernel's number for row `1024·t + l` (`lossAt_eq`). -/
module

public import proofs.«01_k».proof.Proof.KernelRun

@[expose] public section

noncomputable section

open Idealize.ShloMosaic Idealize.ShloMosaic.TcCoe Idealize.SL.Sem

namespace Cert.KernelIdeal.Value

open Cert.KernelIdeal Cert.KernelIdeal.Gen Cert.RowMath

variable (m : (ℓ : Loc nD τ sig) → Buf (Elt Ideal) ℓ)

/-- The scores as launched. -/
abbrev scores (c : Dev nD) : Vec Ideal S16384x100 .f32 := m ((c : Thread nD τ).loc main_arg0)
/-- The labels as launched. -/
abbrev labels (c : Dev nD) : Vec Ideal S16384 .i32 := m ((c : Thread nD τ).loc main_arg1)
/-- The coarse classes as launched. -/
abbrev coarse (c : Dev nD) : Vec Ideal S100 .i32 := m ((c : Thread nD τ).loc main_arg2)

/-- Row `l` of point `t`'s block, as a row of the whole array. -/
def rowOf (t : ℕ) (ht : t < 16) (l : Fin 1024) : Fin 16384 := ⟨1024 * t + l.val, by have := l.isLt; omega⟩

/-- The label array the kernel reads is the labels laid out in one row. -/
theorem V_labels (c : Dev nD) (r : Fin 16384) : (V m c main_call0_v3 : Vec Ideal S1x16384 .i32) (ix2 0 r) = labels m c (ix1 r) := by
  unfold V V0
  simp only [List.flatten_cons, List.flatten_nil, List.append_nil, hostOps0]
  open Idealize.ShloMosaic.StableHlo in
  after_results
  show shapeCast S1x16384 (labels m c) _ (ix2 0 r) = _
  pointwise

/-- The class array the kernel reads is the coarse classes as floats, repeated along the lanes. -/
theorem V_coarse (c : Dev nD) (k : Fin 100) (l : Fin 1024) :
    (V m c main_call0_v2 : Vec Ideal S100x1024 .f32) (ix2 k l) = (((coarse m c (ix1 k)).toInt : ℝ) : EReal) := by
  unfold V V0
  simp only [List.flatten_cons, List.flatten_nil, List.append_nil, hostOps0]
  open Idealize.ShloMosaic.StableHlo in
  after_results
  show broadcastInDim S100x1024 ![0, 1] bcast_S100x1_S100x1024_0_1 (shapeCast S100x1 (sitofp (F := Ideal) .f32 (coarse m c)) _) (ix2 k l) = _
  pointwise
  rfl

/-- Window 0's block index at point `t` is `(t, 0)`, -/
theorem idx0 : ∀ t : Fin cfg0.N, win0_0.index t 0 = t.val ∧ win0_0.index t 1 = 0 := by decide +kernel
/-- window 1's is `(0, t)`, -/
theorem idx1 : ∀ t : Fin cfg0.N, win0_1.index t 0 = 0 ∧ win0_1.index t 1 = t.val := by decide +kernel
/-- window 2's is `(0, 0)`. -/
theorem idx2 : ∀ t : Fin cfg0.N, win0_2.index t 0 = 0 ∧ win0_2.index t 1 = 0 := by decide +kernel

/-- Window 0's block at point `t`: the rows of the scores from `1024·t`. -/
theorem blk0 (c : Dev nD) (t : Fin cfg0.N) (ht : t.val < 16) (l : Fin 1024) (k : Fin 100) :
    (iblk m c 0 t : Vec Ideal S1024x100 .f32) (ix2 l k) = scores m c (ix2 (rowOf t.val ht l) k) := by
  unfold iblk
  rw [View.read_apply]
  show V m c main_arg0 _ = _
  rw [V_main_arg0]
  show scores m c _ = _
  congr 1
  have hi := idx0 t
  funext a
  apply Fin.ext
  match a with
  | ⟨0, _⟩ => show win0_0.index t 0 * 1024 + 1 * l.val = 1024 * t.val + l.val; rw [hi.1]; omega
  | ⟨1, _⟩ => show win0_0.index t 1 * 100 + 1 * k.val = k.val; rw [hi.2]; omega

/-- Window 1's block at point `t`: the labels from `1024·t`. -/
theorem blk1 (c : Dev nD) (t : Fin cfg0.N) (ht : t.val < 16) (l : Fin 1024) :
    (iblk m c 1 t : Vec Ideal S1x1024 .i32) (ix2 0 l) = labels m c (ix1 (rowOf t.val ht l)) := by
  rw [← V_labels]
  unfold iblk
  rw [View.read_apply]
  show V m c main_call0_v3 _ = V m c main_call0_v3 _
  congr 1
  have hi := idx1 t
  funext a
  apply Fin.ext
  match a with
  | ⟨0, _⟩ => show win0_1.index t 0 * 1 + 1 * 0 = 0; rw [hi.1]
  | ⟨1, _⟩ => show win0_1.index t 1 * 1024 + 1 * l.val = 1024 * t.val + l.val; rw [hi.2]; omega

/-- Window 2's block at every point: the coarse classes as floats. -/
theorem blk2 (c : Dev nD) (t : Fin cfg0.N) (k : Fin 100) (l : Fin 1024) :
    (iblk m c 2 t : Vec Ideal S100x1024 .f32) (ix2 k l) = (((coarse m c (ix1 k)).toInt : ℝ) : EReal) := by
  rw [← V_coarse m c k l]
  unfold iblk
  rw [View.read_apply]
  show V m c main_call0_v2 _ = V m c main_call0_v2 _
  congr 1
  have hi := idx2 t
  funext a
  apply Fin.ext
  match a with
  | ⟨0, _⟩ => show win0_2.index t 0 * 100 + 1 * k.val = k.val; rw [hi.1]; omega
  | ⟨1, _⟩ => show win0_2.index t 1 * 1024 + 1 * l.val = l.val; rw [hi.2]; omega

/-- The kernel's pick, at a label from 0 to 99, is the entry at the class the label names. -/
theorem pick_eq (y : BitVec 32) (f : Fin 100 → EReal) (hy : y.toNat < 100) : pick y f = f (classOf y) := by
  have hiff : ∀ k : Fin 100, BitVec.ofNat 32 k.val = y ↔ k = classOf y := by
    intro k
    have hk := k.isLt
    rw [classOf, dif_pos hy]
    constructor
    · intro h
      have h' := congrArg BitVec.toNat h
      rw [BitVec.toNat_ofNat, Nat.mod_eq_of_lt (by omega)] at h'
      exact Fin.ext h'
    · rintro rfl
      exact BitVec.eq_of_toNat_eq (by rw [BitVec.toNat_ofNat, Nat.mod_eq_of_lt (by omega)])
  unfold pick
  simp only [hiff, Finset.sum_ite_eq', Finset.mem_univ, if_true]

/-- The row loss at lane `l` of point `t` is the kernel's number for row `1024·t + l`, its label being from 0 to 99. -/
theorem lossAt_eq (c : Dev nD) (l : Fin 1024) (t : ℕ) (ht : t < 16)
    (hy : (labels m c (ix1 (rowOf t ht l))).toNat < 100) :
    lossAt m c l t = kRow oneEps logClip (fun k : Fin 100 => scores m c (ix2 (rowOf t ht l) k))
      (SameGroup (fun k => coarse m c (ix1 k)) (labels m c (ix1 (rowOf t ht l)))) := by
  have hN : t < cfg0.N := lt_of_lt_of_eq ht N_0.symm
  rw [lossAt, dif_pos hN, rowLoss]
  rw [show (fun k : Fin 100 => (iblk m c 0 ⟨t, hN⟩ : Vec Ideal S1024x100 .f32) (ix2 l k))
      = fun k => scores m c (ix2 (rowOf t ht l) k) from funext fun k => blk0 m c ⟨t, hN⟩ ht l k]
  refine kRow_congr _ _ _ _ _ fun k => ?_
  rw [blk1 m c ⟨t, hN⟩ ht l, pick_eq _ _ hy, blk2, blk2]
  show _ ↔ coarse m c (ix1 k) = coarse m c (ix1 (classOf (labels m c (ix1 (rowOf t ht l)))))
  constructor
  · intro h
    exact BitVec.eq_of_toInt_eq (Int.cast_injective (α := ℝ) (EReal.coe_injective h))
  · intro h
    rw [h]

end Cert.KernelIdeal.Value

end
-- ==== Proof.RefStages.lean ====
/- The reference's arrays, one definition per stage, and its result as their composition. -/
module

public import proofs.«01_k».proof.Proof.Gen.ReferenceIdeal.Run
public import proofs.«01_k».proof.Proof.RowMath

@[expose] public section

noncomputable section

open Idealize.ShloMosaic Idealize.ShloMosaic.TcCoe Idealize.SL.Sem Idealize.ShloMosaic.StableHlo

namespace Cert.ReferenceIdeal.Value

open Cert.ReferenceIdeal Cert.ReferenceIdeal.Gen

/-- A number per row, repeated along the row. -/
def spread (x : FVec Ideal S16384 .f32) : FVec Ideal S16384x100 .f32 :=
  broadcastInDim S16384x100 ![0, 1] bcast_S16384x1_S16384x100_0_1 (broadcastInDim S16384x1 ![0] bcast_S16384_S16384x1_0 x)

/-- The exponentials of the scores, each row shifted by its greatest. -/
def weights (x : FVec Ideal S16384x100 .f32) : FVec Ideal S16384x100 .f32 :=
  Host.exp (subf x (spread (maximumf (broadcastInDim S16384 ![] bcast_S_S16384 (constant S_ .f32 0xFF800000#32))
    (Host.reduce FloatOps.maximumf x (constant S_ .f32 0xFF800000#32) reducesTo_S16384x100_S16384_d1 h_S_))))

/-- The softmax of each row. -/
def probs (x : FVec Ideal S16384x100 .f32) : FVec Ideal S16384x100 .f32 :=
  Host.divf (weights x) (spread (Host.reduceAdd (weights x) (constant S_ .f32 0x00000000#32) reducesTo_S16384x100_S16384_d1 h_S_))

/-- The coarse class of each row's label. -/
def coarseOf (y : IVec S16384 32) (f : IVec S100 32) : IVec S16384 32 :=
  Host.gather gather_S100_S16384x1_S16384_n_0_n_n_0_1_1 f (broadcastInDim S16384x1 ![0] bcast_S16384_S16384x1_0
    (select (cmpi .slt y (broadcastInDim S16384 ![] bcast_S_S16384 (constantI S_ 32 0#32)))
      (addi y (broadcastInDim S16384 ![] bcast_S_S16384 (constantI S_ 32 100#32))) y))

/-- For each row and fine class, one when the class lies in the label's coarse class, else zero. -/
def marks (y : IVec S16384 32) (f : IVec S100 32) : IVec S16384x100 32 :=
  extui 32 (cmpi .eq (broadcastInDim S16384x100 ![0, 1] bcast_S1x100_S16384x100_0_1 (broadcastInDim S1x100 ![1] bcast_S100_S1x100_1 f))
    (broadcastInDim S16384x100 ![0, 1] bcast_S16384x1_S16384x100_0_1 (broadcastInDim S16384x1 ![0] bcast_S16384_S16384x1_0 (coarseOf y f))))
    natLt_1_32

/-- The five classes taken of each row. -/
def places (y : IVec S16384 32) (f : IVec S100 32) : IVec S16384x5 32 :=
  (Host.topK S16384x5 1 (IntOp.cmpi .sgt) (marks y f) sliceFits_S16384x100_S16384x5).2

/-- The five classes, a negative one counted from the row's end. -/
def wrapped (ix : IVec S16384x5 32) : IVec S16384x5 32 :=
  select (cmpi .slt ix (broadcastInDim S16384x5 ![] bcast_S_S16384x5 (constantI S_ 32 0#32)))
    (addi ix (broadcastInDim S16384x5 ![] bcast_S_S16384x5 (constantI S_ 32 100#32))) ix

/-- The five classes as a column of index words. -/
def column (ix : IVec S16384x5 32) : IVec S16384x5x1 32 := shapeCast S16384x5x1 (wrapped ix) shapeCasts_S16384x5_S16384x5x1

/-- Whether each of the five classes lies within the row. -/
def within (ix : IVec S16384x5 32) : IVec S16384x5 1 :=
  Host.reduce IntOp.andi
    (andi (cmpi .sge (column ix) (broadcastInDim S16384x5x1 ![] bcast_S_S16384x5x1 (constantI S_ 32 0#32)))
      (cmpi .sle (column ix) (broadcastInDim S16384x5x1 ![0, 1, 2] bcast_S1x1x1_S16384x5x1_0_1_2
        (broadcastInDim S1x1x1 ![2] bcast_S1_S1x1x1_2 (constantI S1 32 99#32)))))
    (constantI S_ 1 1#1) reducesTo_S16384x5x1_S16384x5_d2 h_S_

/-- The probabilities of the five classes. -/
def taken (p : FVec Ideal S16384x100 .f32) (ix : IVec S16384x5 32) : FVec Ideal S16384x5 .f32 :=
  select (within ix) (Host.gather gather_S16384x100_S16384x5x1_S16384x5_n_1_0_0_1_2_11 p (column ix))
    (broadcastInDim S16384x5 ![] bcast_S_S16384x5 (constant S_ .f32 0x7FC00000#32))

/-- The probabilities over what the five classes leave of one. -/
def rescaled (p : FVec Ideal S16384x100 .f32) (t : FVec Ideal S16384x5 .f32) : FVec Ideal S16384x100 .f32 :=
  Host.divf p (spread (addf (subf (broadcastInDim S16384 ![] bcast_S_S16384 (constant S_ .f32 0x3F800000#32))
    (Host.reduceAdd t (constant S_ .f32 0x00000000#32) reducesTo_S16384x5_S16384_d1 h_S_))
    (broadcastInDim S16384 ![] bcast_S_S16384 (constant S_ .f32 0x33D6BF95#32))))

/-- The row numbers, as a column. -/
def rowNumbers : IVec S16384x1 32 := broadcastInDim S16384x1 ![0] bcast_S16384_S16384x1_0 (iotaInDim S16384 32 0)

/-- The row numbers, a negative one counted from the end. -/
def rowWords : IVec S16384x1 32 :=
  select (cmpi .slt rowNumbers (broadcastInDim S16384x1 ![] bcast_S_S16384x1 (constantI S_ 32 0#32)))
    (addi rowNumbers (broadcastInDim S16384x1 ![] bcast_S_S16384x1 (constantI S_ 32 16384#32))) rowNumbers

/-- The pairs of row and class, one per place taken. -/
def pairs (ix : IVec S16384x5 32) : IVec S16384x5x2 32 :=
  fn_main_v51 (F := Ideal) (broadcastInDim S16384x5x1 ![0, 1] bcast_S16384x5_S16384x5x1_0_1
      (broadcastInDim S16384x5 ![0, 1] bcast_S16384x1_S16384x5_0_1 rowWords))
    (broadcastInDim S16384x5x1 ![0, 1] bcast_S16384x5_S16384x5x1_0_1 (wrapped ix))

/-- One everywhere but zero at the five classes of each row. -/
def keep (ix : IVec S16384x5 32) : FVec Ideal S16384x100 .f32 :=
  Host.scatter scatter_S16384x100_S16384x5x2_S16384x5_n_01_01_2 (fun _ b => b)
    (broadcastInDim S16384x100 ![] bcast_S_S16384x100 (constant S_ .f32 0x3F800000#32)) (pairs ix)
    (broadcastInDim S16384x5 ![] bcast_S_S16384x5 (constant S_ .f32 0x00000000#32))

/-- The entropy terms of the rescaled probabilities `q` that the mask `k` keeps. -/
def terms (q k : FVec Ideal S16384x100 .f32) : FVec Ideal S16384x100 .f32 :=
  mulf (mulf q (Host.log (maximumf (broadcastInDim S16384x100 ![] bcast_S_S16384x100 (id (constant S_ .f32 0x2EDBE6FF#32))) q))) k

/-- The reference's result: the sum of the terms over the row count and the class count. -/
def loss (x : FVec Ideal S16384x100 .f32) (y : IVec S16384 32) (f : IVec S100 32) : FVec Ideal S_ .f32 :=
  Host.divf (Host.divf (Host.reduceAdd (terms (rescaled (probs x) (taken (probs x) (places y f))) (keep (places y f)))
    (constant S_ .f32 0x00000000#32) reducesTo_S16384x100_S_d0_1 h_S_) (constant S_ .f32 0x46800000#32)) (constant S_ .f32 0x42C80000#32)

/-- The program's result is the composition of the stages at its arguments. -/
theorem res_eq (m : (ℓ : Loc nD τ sig) → Buf (Elt Ideal) ℓ) (c : Dev nD) :
    res_main_v58 m c = loss (m ((c.tc : Thread nD τ).loc main_arg0)) (m ((c.tc : Thread nD τ).loc main_arg1))
      (m ((c.tc : Thread nD τ).loc main_arg2)) := by
  unfold res_main_v58
  rfl

end Cert.ReferenceIdeal.Value

end
-- ==== Proof.TopFive.lean ====
/- The positions a top-k takes from a row of zeros and ones.

   A stable sort that puts the ones before the zeros lists the members first (`sortedFrom_mem_iff`); so the first five positions of
   a row with exactly five ones are those of the ones, each once (`topPos`, `topPos_injective`, `exists_topPos_iff`), and the
   indices `Host.topK` returns are those positions as words (`topK_index`). -/
module

public import Idealize.ShloMosaic.Lib.SortFacts
public import Idealize.ShloMosaic.Lib.Pointwise

@[expose] public section

noncomputable section

open Idealize.ShloMosaic

namespace Cert.TopFive

/-- When `before` holds exactly from a member to a non-member, the stable sort's position `i` is a member exactly when `i`
    is less than the number of members. -/
theorem sortedFrom_mem_iff {n k : ℕ} (P : Fin n → Prop) [DecidablePred P] (before : Fin n → Fin n → Bool)
    (hb : ∀ a b, before a b = decide (P a ∧ ¬P b)) (hcard : (Finset.univ.filter P).card = k) (i : Fin n) :
    P (sortedFrom before i) ↔ i.val < k := by
  classical
  have hord : ∀ i j : Fin n, i < j → P (sortedFrom before j) → P (sortedFrom before i) := by
    intro i j hij hj
    have h := sortedFrom_noInversion before before
      (fun a b h => by rw [hb] at h ⊢; simp only [decide_eq_true_eq, decide_eq_false_iff_not] at h ⊢; tauto)
      (fun _ _ h => h)
      (fun a b c h h' => by rw [hb] at h h' ⊢; simp only [decide_eq_false_iff_not] at h h' ⊢; tauto) i j hij
    rw [hb, decide_eq_false_iff_not] at h
    by_contra hi
    exact h ⟨hj, hi⟩
  have hbij : Function.Bijective (sortedFrom before) := ⟨sortedFrom_injective before, sortedFrom_surjective before⟩
  have hS : (Finset.univ.filter fun i => P (sortedFrom before i)).card = k := by
    rw [← hcard]
    refine Finset.card_bij (fun i _ => sortedFrom before i) ?_ ?_ ?_
    · intro i hi; simpa using hi
    · intro i _ j _ h; exact hbij.1 h
    · intro b hb'
      obtain ⟨i, rfl⟩ := hbij.2 b
      exact ⟨i, by simpa using hb', rfl⟩
  constructor
  · intro hi
    have hsub : Finset.Iic i ⊆ Finset.univ.filter fun i => P (sortedFrom before i) := by
      intro j hj
      rw [Finset.mem_filter]
      refine ⟨Finset.mem_univ j, ?_⟩
      rcases (Finset.mem_Iic.1 hj).lt_or_eq with h | rfl
      · exact hord j i h hi
      · exact hi
    have := Finset.card_le_card hsub
    rw [hS, Fin.card_Iic] at this
    omega
  · intro hi
    by_contra hn
    have hsub : (Finset.univ.filter fun i => P (sortedFrom before i)) ⊆ Finset.Iio i := by
      intro j hj
      rw [Finset.mem_filter] at hj
      rw [Finset.mem_Iio]
      by_contra hji
      rcases (not_lt.1 hji).lt_or_eq with h | rfl
      · exact hn (hord i j h hj.2)
      · exact hn hj.2
    have := Finset.card_le_card hsub
    rw [hS, Fin.card_Iio] at this
    omega

/-- The position the top five of a row of 100 words puts at place `j`. -/
def topPos (v : Fin 100 → BitVec 32) (j : Fin 5) : Fin 100 :=
  sortedFrom (fun k k' => IntOp.cmpi .sgt (v k) (v k') == 1#1) ⟨j.val, by omega⟩

/-- The five positions are different. -/
theorem topPos_injective (v : Fin 100 → BitVec 32) : Function.Injective (topPos v) := fun i j h => by
  have := sortedFrom_injective _ h
  exact Fin.ext (congrArg (fun x : Fin 100 => x.val) this)

/-- In a row of zeros and ones with exactly five ones, the five positions are those of the ones. -/
theorem exists_topPos_iff (v : Fin 100 → BitVec 32) (P : Fin 100 → Prop) [DecidablePred P]
    (hv : ∀ k, v k = if P k then 1#32 else 0#32) (hcard : (Finset.univ.filter P).card = 5) (k : Fin 100) :
    (∃ j, topPos v j = k) ↔ P k := by
  have hb : ∀ a b, (IntOp.cmpi .sgt (v a) (v b) == 1#1) = decide (P a ∧ ¬P b) := by
    intro a b
    rw [hv, hv]
    by_cases ha : P a <;> by_cases hb : P b <;> simp [ha, hb, IntOp.cmpi]
  have key := sortedFrom_mem_iff P _ hb hcard
  constructor
  · rintro ⟨j, rfl⟩
    exact (key _).2 j.isLt
  · intro hk
    obtain ⟨i, rfl⟩ := sortedFrom_surjective (fun a b => IntOp.cmpi .sgt (v a) (v b) == 1#1) k
    exact ⟨⟨i.val, (key i).1 hk⟩, rfl⟩

/-- The indices of the top five of each row, read at row `r` and place `j`. -/
theorem topK_index {n : ℕ} (x : IVec (⟨2, ![n, 100]⟩ : Shape) 32)
    (h : (⟨2, ![n, 100]⟩ : Shape).Slices (fun _ => 0) ⟨2, ![n, 5]⟩) (r : Fin n) (j : Fin 5) :
    (Host.topK (⟨2, ![n, 5]⟩ : Shape) 1 (IntOp.cmpi .sgt) x h).2 (ix2 r j)
      = BitVec.ofNat 32 (topPos (fun k => x (ix2 r k)) j).val := by
  have halong : ∀ (a : Fin 100) (k : Fin 100),
      Shape.Idx.along (s := ⟨2, ![n, 100]⟩) (ix2 r a) (1 : Fin 2) k = ix2 r k := by
    intro a k
    funext b
    match b with
    | ⟨0, _⟩ => rfl
    | ⟨1, _⟩ => rfl
  have hidx : (fun a : Fin 2 => (⟨0 + ((ix2 r j : (⟨2, ![n, 5]⟩ : Shape).Idx) (a.cast h.1.symm)).val,
      Nat.lt_of_lt_of_le (Nat.add_lt_add_left ((ix2 r j : (⟨2, ![n, 5]⟩ : Shape).Idx) _).isLt _) (h.2 a)⟩ :
        Fin ((⟨2, ![n, 100]⟩ : Shape).size a))) = ix2 r (⟨j.val, by omega⟩ : Fin 100) := by
    funext b
    refine Fin.ext ?_
    match b with
    | ⟨0, _⟩ => exact Nat.zero_add _
    | ⟨1, _⟩ => exact Nat.zero_add _
  unfold Host.topK Host.sort2 extractStridedSlice
  dsimp only
  rw [dif_pos (Nat.lt_succ_self 1 : (1 : ℕ) < (⟨2, ![n, 100]⟩ : Shape).rank)]
  rw [hidx]
  dsimp only
  rw [dif_pos (Nat.lt_succ_self 1)]
  have hσ : ∀ σ : Fin 100, (Shape.Idx.along (s := ⟨2, ![n, 100]⟩) (ix2 r (⟨j.val, by omega⟩ : Fin 100)) (1 : Fin 2) σ) (1 : Fin 2) = σ := by
    intro σ
    rw [halong]
    rfl
  refine congrArg (fun k : Fin 100 => BitVec.ofNat 32 k.val) ((hσ _).trans ?_)
  refine congrArg (fun b => sortedFrom b (⟨j.val, by omega⟩ : Fin 100)) ?_
  funext k k'
  exact congrArg₂ (fun a b => IntOp.cmpi .sgt (x a) (x b) == 1#1) (halong _ k) (halong _ k')

end Cert.TopFive

end
-- ==== Proof.RowIndex.lean ====
/- Reading one entry per row by its column, and clearing the entries of each row that a list of columns names.

   `gather_row`: the batched gather along the columns of a matrix reads the entry at the row's own index.
   `scatter_clear`: the scatter that writes one value at every (row, column) of a table leaves the other entries alone. -/
module

public import Idealize.ShloMosaic.Lib.Routing.OpsSet
public import Idealize.ShloMosaic.Lib.Routing.OpsPair
public import Idealize.ShloMosaic.Lib.Pointwise

@[expose] public section

noncomputable section

open Idealize.ShloMosaic Idealize.ShloMosaic.Routing

namespace Cert.RowIndex

variable {α : Type} {R C B : ℕ}

/-- The gather of one column per row of a table, the rows a batching axis: entry `(r, j)` is the matrix at row `r` and the
    column the table's word names, when that word is a column. -/
theorem gather_row (d : GatherDims (⟨2, ![R, C]⟩ : Shape) (⟨3, ![R, B, 1]⟩ : Shape) (⟨2, ![R, B]⟩ : Shape))
    (hod : d.offsetDims = []) (hcs : d.collapsedSliceDims = [1]) (hob : d.operandBatchingDims = [0])
    (hsb : d.startIndicesBatchingDims = [0]) (hsim : d.startIndexMap = [1]) (hivd : d.indexVectorDim = 2)
    (hss : d.sliceSizes = ![1, 1]) (x : (⟨2, ![R, C]⟩ : Shape).Idx → α) (idx : IVec (⟨3, ![R, B, 1]⟩ : Shape) 32) (r : Fin R) (j : Fin B)
    (c : Fin C) (hc : idx (ix3 r j (0 : Fin 1)) = BitVec.ofNat 32 c.val) (hC : C < 2 ^ 31) :
    Host.gather d x idx (ix2 r j) = x (ix2 r c) := by
  obtain ⟨od, cs, ob, sb, sim, ivd, ss, wf⟩ := d
  subst hod hcs hob hsb hsim hivd hss
  have hcl := c.isLt
  unfold Host.gather
  refine congrArg x (funext fun a => Fin.ext ?_)
  match a with
  | ⟨0, _⟩ =>
    unfold GatherDims.operandIdx
    simp only
    rw [GatherDims.start_batching _ _ _ _ (List.mem_singleton.2 rfl),
      GatherDims.offCoord_eq_zero _ _ _ (fun h => ((GatherDims.mem_sKept _ _).1 h).2 (List.mem_singleton.2 rfl))]
    unfold GatherDims.batchCoord
    rw [Nat.zero_add, Nat.add_zero]
    split
    · rfl
    · rename_i h
      exact absurd (List.mem_singleton.2 rfl) h
  | ⟨1, _⟩ =>
    unfold GatherDims.operandIdx
    simp only
    rw [GatherDims.batchCoord_eq_zero _ _ _ (fun h => absurd (List.mem_singleton.1 h) (by simp)),
      GatherDims.offCoord_eq_zero _ _ _ (fun h => ((GatherDims.mem_sKept _ _).1 h).1 (List.mem_singleton.2 rfl))]
    unfold GatherDims.start
    split
    swap
    · rename_i h
      exact absurd (List.mem_singleton.2 rfl) h
    have hsi : ∀ k, GatherDims.siIdx (⟨[], [1], [0], [0], [1], 2, ![1, 1], wf⟩ :
        GatherDims (⟨2, ![R, C]⟩ : Shape) (⟨3, ![R, B, 1]⟩ : Shape) (⟨2, ![R, B]⟩ : Shape)) (ix2 r j) k = ix3 r j (0 : Fin 1) := by
      intro k
      funext b
      refine Fin.ext ?_
      match b with
      | ⟨0, _⟩ => rfl
      | ⟨1, _⟩ => rfl
      | ⟨2, _⟩ => exact Nat.lt_one_iff.1 k.isLt
    rw [hsi, hc, StableHlo.Predicate.toInt_ofNat_small _ (by omega)]
    show min c.val (C - 1) + 0 + 0 = c.val
    omega

/-- The scatter that writes the value `v` at the (row, column) pairs of a table whose row words are the rows themselves and whose column
    words name columns `q r j`: entry `(r, k)` is `v` when some `q r j` is `k`, else as before. -/
theorem scatter_clear (d : ScatterDims (shape2 R C) (shape3 R B 2) (shape2 R B)) (hiw : d.insertedWindowDims = [0, 1])
    (hsd : d.scatterDimsToOperandDims = [0, 1]) (hivd : d.indexVectorDim = 2) (x0 : (shape2 R C).Idx → α) (idx : IVec (shape3 R B 2) 32)
    (upd : (shape2 R B).Idx → α) (v : α) (hv : ∀ i, upd i = v) (q : Fin R → Fin B → Fin C)
    (h0 : ∀ r j, idx (ix3 r j (0 : Fin 2)) = BitVec.ofNat 32 r.val) (h1 : ∀ r j, idx (ix3 r j (1 : Fin 2)) = BitVec.ofNat 32 (q r j).val)
    (hR : R < 2 ^ 31) (hC : C < 2 ^ 31) (r : Fin R) (k : Fin C) :
    Host.scatter d (fun _ b => b) x0 idx upd (ix2 r k) = if ∃ j, q r j = k then v else x0 (ix2 r k) := by
  have hland : ∀ (a : Fin R) (b : Fin B), d.resultIdx? (ix2 a b) idx = some (ix2 r k) ↔ a = r ∧ q a b = k := by
    intro a b
    have ha := a.isLt
    have hq := (q a b).isLt
    refine (scatter_lands2 d hiw hsd hivd idx a b r k).trans ?_
    have e0 : idx (ValueIdx.ix3 a b (0 : Fin 2)) = BitVec.ofNat 32 a.val := h0 a b
    have e1 : idx (ValueIdx.ix3 a b (1 : Fin 2)) = BitVec.ofNat 32 (q a b).val := h1 a b
    rw [e0, e1, StableHlo.Predicate.toInt_ofNat_small _ (by omega),
      StableHlo.Predicate.toInt_ofNat_small _ (by omega), Fin.ext_iff, Fin.ext_iff]
    exact and_congr Nat.cast_inj Nat.cast_inj
  split_ifs with h
  · obtain ⟨j, hj⟩ := h
    exact scatter_set_hit d x0 idx upd _ v (fun i _ => hv i) (ix2 r j) ((hland r j).2 ⟨rfl, hj⟩)
  · refine scatter_set_miss d x0 idx upd _ fun i hi => h ?_
    obtain ⟨a, b, rfl⟩ : ∃ a b, i = ix2 a b := ⟨i 0, i 1, by
      funext t
      match t with
      | ⟨0, _⟩ => rfl
      | ⟨1, _⟩ => rfl⟩
    obtain ⟨rfl, hq⟩ := (hland a b).1 hi
    exact ⟨b, hq⟩

end Cert.RowIndex

end
-- ==== Proof.RefValue.lean ====
/- The reference's stages, element by element, and its result as a number.

   With a label from 0 to 99 and a coarse class of exactly five fine classes, the five classes taken of a row are those of the label's
   coarse class; so the row's terms add up to `rRow` (RowMath), and the result is the sum of the rows over 16384 and over 100 (`loss_eq`). -/
module

public import proofs.«01_k».proof.Proof.RefStages
public import proofs.«01_k».proof.Proof.TopFive
public import proofs.«01_k».proof.Proof.RowIndex

@[expose] public section

noncomputable section

open Idealize.ShloMosaic Idealize.ShloMosaic.TcCoe

namespace Cert.ReferenceIdeal.Value

open Cert.ReferenceIdeal Cert.ReferenceIdeal.Gen Cert.RowMath Cert.TopFive Cert.RowIndex

/-- What the reference adds to the denominator, the word `0x33D6BF95`. -/
def eps : ℝ := 14073749 / 140737488355328

/-- What the reference clips at, the word `0x2EDBE6FF`. -/
def clip : ℝ := 14411519 / 144115188075855872

/-- The word `0x3F800000` denotes one, -/
theorem ofBits_one : Ideal.ofBits .f32 0x3F800000#32 = 1 := by
  simp [Ideal.ofBits, Ideal.ieee]
  rw [← EReal.coe_mul, ← EReal.coe_one]
  exact congrArg _ (by norm_num)
/-- `0x33D6BF95` denotes `eps`, -/
theorem ofBits_eps : Ideal.ofBits .f32 0x33D6BF95#32 = (eps : EReal) := by
  simp [Ideal.ofBits, Ideal.ieee, eps]
  rw [← EReal.coe_mul]
  exact congrArg _ (by norm_num)
/-- `0x2EDBE6FF` denotes `clip`, -/
theorem ofBits_clip : Ideal.ofBits .f32 0x2EDBE6FF#32 = (clip : EReal) := by
  simp [Ideal.ofBits, Ideal.ieee, clip]
  rw [← EReal.coe_mul]
  exact congrArg _ (by norm_num)
/-- `0x46800000` the number of rows, -/
theorem ofBits_rows : Ideal.ofBits .f32 0x46800000#32 = ((16384 : ℝ) : EReal) := by
  simp [Ideal.ofBits, Ideal.ieee]
  rw [← EReal.coe_mul]
  exact congrArg _ (by norm_num)
/-- and `0x42C80000` the number of classes. -/
theorem ofBits_classes : Ideal.ofBits .f32 0x42C80000#32 = ((100 : ℝ) : EReal) := by
  simp [Ideal.ofBits, Ideal.ieee]
  rw [← EReal.coe_mul]
  exact congrArg _ (by norm_num)

variable (x : FVec Ideal S16384x100 .f32) (y : IVec S16384 32) (f : IVec S100 32)

/-- A number per row, read at a row and a class. -/
theorem spread_apply (v : FVec Ideal S16384 .f32) (r : Fin 16384) (c : Fin 100) : spread v (ix2 r c) = v (ix1 r) := by
  pointwise [spread]

/-- The greatest score of a row. -/
theorem rowTop_apply (r : Fin 16384) :
    Host.reduce (FloatOps.maximumf (F := Ideal)) x (constant S_ .f32 0xFF800000#32) reducesTo_S16384x100_S16384_d1 h_S_ (ix1 r)
      = top fun k : Fin 100 => x (ix2 r k) := by
  pointwise
  rw [ofBits_negInf]
  rfl

/-- The sum of a row. -/
theorem rowSum_apply (r : Fin 16384) :
    Host.reduceAdd x (constant S_ .f32 0x00000000#32) reducesTo_S16384x100_S16384_d1 h_S_ (ix1 r) = ∑ k : Fin 100, x (ix2 r k) := by
  pointwise

/-- The exponential of a difference, read at an index. -/
theorem exp_subf_apply {s : Shape} (u v : FVec Ideal s .f32) (i : s.Idx) : Host.exp (subf u v) i = Ideal.exp (u i - v i) := rfl

/-- The greater of two arrays, read at an index. -/
theorem maximumf_apply {s : Shape} (u v : FVec Ideal s .f32) (i : s.Idx) : maximumf u v i = max (u i) (v i) := rfl

/-- The quotient of two arrays, read at an index. -/
theorem divf_apply {s : Shape} (u v : FVec Ideal s .f32) (i : s.Idx) : Host.divf u v i = Ideal.div (u i) (v i) := rfl

/-- A word repeated, read at an index. -/
theorem fill_apply {t : Shape} (b : BitVec 32) (h : S_.BroadcastsInDim t (![] : Fin 0 → Fin t.rank)) (i : t.Idx) :
    broadcastInDim t ![] h (constant (F := Ideal) S_ .f32 b) i = Ideal.ofBits .f32 b := rfl

/-- A product of arrays, read at an index. -/
theorem mulf_apply {s : Shape} (u v : FVec Ideal s .f32) (i : s.Idx) : mulf u v i = u i * v i := rfl

/-- A sum of arrays, read at an index. -/
theorem addf_apply {s : Shape} (u v : FVec Ideal s .f32) (i : s.Idx) : addf u v i = u i + v i := rfl

/-- A difference of arrays, read at an index. -/
theorem subf_apply {s : Shape} (u v : FVec Ideal s .f32) (i : s.Idx) : subf u v i = u i - v i := rfl

/-- A logarithm, read at an index. -/
theorem log_apply {s : Shape} (u : FVec Ideal s .f32) (i : s.Idx) : Host.log u i = Ideal.log (u i) := rfl

/-- A choice between arrays, read at an index. -/
theorem select_apply {s : Shape} {α : Type} (b : IVec s 1) (u v : s.Idx → α) (i : s.Idx) :
    select b u v i = Scalar.select (b i) (u i) (v i) := rfl

/-- The choice where the mask is one. -/
theorem select_one {α : Type} (a b : α) : Scalar.select 1#1 a b = a := rfl

/-- The exponentials at a row and a class. -/
theorem weights_apply (r : Fin 16384) (c : Fin 100) : weights x (ix2 r c) = weight (fun k : Fin 100 => x (ix2 r k)) c := by
  unfold weights
  rw [exp_subf_apply, spread_apply, maximumf_apply, fill_apply, rowTop_apply, ofBits_negInf, max_eq_right bot_le]
  rfl

/-- The softmax at a row and a class. -/
theorem probs_apply (r : Fin 16384) (c : Fin 100) : probs x (ix2 r c) = prob (fun k : Fin 100 => x (ix2 r k)) c := by
  unfold probs
  rw [divf_apply, spread_apply, rowSum_apply, weights_apply]
  unfold prob mass
  exact congrArg _ (Finset.sum_congr rfl fun k _ => weights_apply x r k)

/-- The coarse class of a label from 0 to 99. -/
theorem coarseOf_apply (r : Fin 16384) (hy : (y (ix1 r)).toNat < 100) : coarseOf y f (ix1 r) = f (ix1 (classOf (y (ix1 r)))) := by
  refine Routing.gather_take1 _ rfl rfl rfl rfl f _ r _ ?_ (by norm_num)
  show broadcastInDim S16384x1 ![0] bcast_S16384_S16384x1_0 (select (cmpi .slt y (broadcastInDim S16384 ![] bcast_S_S16384 (constantI S_ 32 0#32)))
      (addi y (broadcastInDim S16384 ![] bcast_S_S16384 (constantI S_ 32 100#32))) y) (ix2 r 0) = _
  pointwise
  rw [Routing.wrap_of_lt _ _ (by omega), classOf, dif_pos hy]
  simp

/-- The marks of a row with a label from 0 to 99. -/
theorem marks_apply (r : Fin 16384) (k : Fin 100) (hy : (y (ix1 r)).toNat < 100) :
    marks y f (ix2 r k) = if SameGroup (fun k => f (ix1 k)) (y (ix1 r)) k then 1#32 else 0#32 := by
  pointwise [marks]
  rw [coarseOf_apply y f r hy]
  unfold SameGroup
  by_cases h : f (ix1 k) = f (ix1 (classOf (y (ix1 r))))
  · simp [IntOp.cmpi, h]
  · simp [IntOp.cmpi, beq_eq_false_iff_ne.2 h, h]

/-- The class taken of row `r` at place `j`. -/
def place (r : Fin 16384) (j : Fin 5) : Fin 100 := topPos (fun k => marks y f (ix2 r k)) j

/-- The words taken are those of the places. -/
theorem places_apply (r : Fin 16384) (j : Fin 5) : places y f (ix2 r j) = BitVec.ofNat 32 (place y f r j).val :=
  topK_index _ _ r j

/-- None is negative, so the wrap changes nothing. -/
theorem wrapped_apply (r : Fin 16384) (j : Fin 5) : wrapped (places y f) (ix2 r j) = BitVec.ofNat 32 (place y f r j).val := by
  have hlt := (place y f r j).isLt
  pointwise [wrapped]
  rw [places_apply, Routing.wrap_of_lt]
  rw [BitVec.toNat_ofNat, Nat.mod_eq_of_lt (by omega)]
  omega

/-- The same words as a column. -/
theorem column_apply (r : Fin 16384) (j : Fin 5) :
    column (places y f) (ix3 r j (0 : Fin 1)) = BitVec.ofNat 32 (place y f r j).val := by
  rw [← wrapped_apply]
  unfold column
  pointwise

/-- A word from 0 to 99 passes both bounds. -/
theorem bounds_word : ∀ c : Fin 100, IntOp.andi (IntOp.andi (IntOp.cmpi .sge (BitVec.ofNat 32 c.val) 0#32)
    (IntOp.cmpi .sle (BitVec.ofNat 32 c.val) 99#32)) 1#1 = 1#1 := by decide

/-- The five classes lie within the row. -/
theorem within_apply (r : Fin 16384) (j : Fin 5) : within (places y f) (ix2 r j) = 1#1 := by
  pointwise [within]
  rw [Finset.univ_unique, Finset.fold_singleton]
  show IntOp.andi (IntOp.andi (IntOp.cmpi .sge (column (places y f) (ix3 r j (0 : Fin 1))) 0#32)
    (IntOp.cmpi .sle (column (places y f) (ix3 r j (0 : Fin 1))) 99#32)) 1#1 = 1#1
  rw [column_apply]
  exact bounds_word _

/-- The probabilities taken are those at the five classes. -/
theorem taken_apply (p : FVec Ideal S16384x100 .f32) (r : Fin 16384) (j : Fin 5) :
    taken p (places y f) (ix2 r j) = p (ix2 r (place y f r j)) := by
  unfold taken
  rw [select_apply, within_apply, select_one]
  exact gather_row _ rfl rfl rfl rfl rfl rfl rfl p _ r j _ (column_apply y f r j) (by norm_num)

/-- The mask at a row and a class. -/
theorem keep_apply (r : Fin 16384) (k : Fin 100) :
    keep (places y f) (ix2 r k) = if ∃ j, place y f r j = k then (0 : EReal) else 1 := by
  unfold keep
  have h0 : ∀ (r : Fin 16384) (j : Fin 5), pairs (places y f) (ix3 r j (0 : Fin 2)) = BitVec.ofNat 32 r.val := by
    intro r j
    have hr := r.isLt
    pointwise [pairs, fn_main_v51, rowWords, rowNumbers]
    rw [Routing.wrap_of_lt]
    rw [BitVec.toNat_ofNat, Nat.mod_eq_of_lt (by omega)]
    omega
  have h1 : ∀ (r : Fin 16384) (j : Fin 5), pairs (places y f) (ix3 r j (1 : Fin 2)) = BitVec.ofNat 32 (place y f r j).val := by
    intro r j
    rw [← wrapped_apply]
    pointwise [pairs, fn_main_v51]
  refine (scatter_clear _ rfl rfl rfl _ _ _ (0 : EReal) (fun i => ?_) (place y f) h0 h1 (by norm_num) (by norm_num) r k).trans ?_
  · rw [fill_apply]
    exact Ideal.ofBits_zero .f32
  · rw [fill_apply, ofBits_one]

/-- The sum of the five numbers of a row. -/
theorem fiveSum_apply (t : FVec Ideal S16384x5 .f32) (r : Fin 16384) :
    Host.reduceAdd t (constant S_ .f32 0x00000000#32) reducesTo_S16384x5_S16384_d1 h_S_ (ix1 r) = ∑ j : Fin 5, t (ix2 r j) := by
  pointwise

/-- The rescaled probabilities at a row and a class. -/
theorem rescaled_apply (p : FVec Ideal S16384x100 .f32) (t : FVec Ideal S16384x5 .f32) (r : Fin 16384) (c : Fin 100) :
    rescaled p t (ix2 r c) = Ideal.div (p (ix2 r c)) (1 - (∑ j : Fin 5, t (ix2 r j)) + (eps : EReal)) := by
  unfold rescaled
  rw [divf_apply, spread_apply, addf_apply, subf_apply, fill_apply, fill_apply, fiveSum_apply, ofBits_one, ofBits_eps]

/-- A term at a row and a class. -/
theorem terms_apply (q k : FVec Ideal S16384x100 .f32) (i : S16384x100.Idx) :
    terms q k i = q i * Ideal.log (max (clip : EReal) (q i)) * k i := by
  unfold terms
  rw [id_eq, mulf_apply, mulf_apply, log_apply, maximumf_apply, fill_apply, ofBits_clip]

/-- The sum of a whole array. -/
theorem wholeSum_apply (t : FVec Ideal S16384x100 .f32) (i : S_.Idx) :
    Host.reduceAdd t (constant S_ .f32 0x00000000#32) reducesTo_S16384x100_S_d0_1 h_S_ i
      = ∑ r : Fin 16384, ∑ c : Fin 100, t (ix2 r c) := by
  pointwise

/-- A sum over five different places that run through a set is the masked sum over that set. -/
theorem sum_places {q : Fin 5 → Fin 100} (hq : Function.Injective q) (g : Fin 100 → Prop) [DecidablePred g] (hg : ∀ k, (∃ j, q j = k) ↔ g k)
    (v : Fin 100 → EReal) : ∑ j, v (q j) = ∑ k, if g k then v k else 0 := by
  rw [← Finset.sum_filter, ← Finset.sum_image (s := Finset.univ) (g := q) (f := v) (fun a _ b _ h => hq h)]
  refine Finset.sum_congr (Finset.ext fun k => ?_) fun _ _ => rfl
  simp [hg]

/-- The five classes taken of a row are those of the label's coarse class, when that has exactly five. -/
theorem place_iff (r : Fin 16384) (hy : (y (ix1 r)).toNat < 100)
    (hc : (Finset.univ.filter (SameGroup (fun k => f (ix1 k)) (y (ix1 r)))).card = 5) (k : Fin 100) :
    (∃ j, place y f r j = k) ↔ SameGroup (fun k => f (ix1 k)) (y (ix1 r)) k :=
  exists_topPos_iff _ _ (fun k => marks_apply y f r k hy) hc k

/-- The reference's term at a row and a class is `rTerm`. -/
theorem term_apply (r : Fin 16384) (hy : (y (ix1 r)).toNat < 100)
    (hc : (Finset.univ.filter (SameGroup (fun k => f (ix1 k)) (y (ix1 r)))).card = 5) (c : Fin 100) :
    terms (rescaled (probs x) (taken (probs x) (places y f))) (keep (places y f)) (ix2 r c)
      = rTerm eps clip (fun k : Fin 100 => x (ix2 r k)) (SameGroup (fun k => f (ix1 k)) (y (ix1 r))) c := by
  have hs : (∑ j : Fin 5, taken (probs x) (places y f) (ix2 r j))
      = ∑ k : Fin 100, if SameGroup (fun k => f (ix1 k)) (y (ix1 r)) k then prob (fun k : Fin 100 => x (ix2 r k)) k else 0 := by
    rw [← sum_places (topPos_injective _) _ (place_iff y f r hy hc)]
    exact Finset.sum_congr rfl fun j _ => (taken_apply y f _ r j).trans (probs_apply x r _)
  rw [terms_apply, rescaled_apply, keep_apply, hs, probs_apply]
  simp only [place_iff y f r hy hc]
  rfl

/-- The reference's result. -/
theorem loss_eq (i : S_.Idx) (hy : ∀ r : Fin 16384, (y (ix1 r)).toNat < 100)
    (hc : ∀ r : Fin 16384, (Finset.univ.filter (SameGroup (fun k => f (ix1 k)) (y (ix1 r)))).card = 5) :
    loss x y f i = Ideal.div (Ideal.div (∑ r : Fin 16384,
      rRow eps clip (fun k : Fin 100 => x (ix2 r k)) (SameGroup (fun k => f (ix1 k)) (y (ix1 r)))) ((16384 : ℝ) : EReal)) ((100 : ℝ) : EReal) := by
  unfold loss
  rw [divf_apply, divf_apply, wholeSum_apply]
  refine congrArg₂ Ideal.div (congrArg₂ Ideal.div ?_ ofBits_rows) ofBits_classes
  exact Finset.sum_congr rfl fun r _ => Finset.sum_congr rfl fun c _ => term_apply x y f r (hy r) (hc r) c

end Cert.ReferenceIdeal.Value

end
-- ==== Proof.Precondition.lean ====
/- What the precondition says, read off its printed function: every label is from 0 to 99, its coarse class has exactly five fine
   classes, and the greatest score of every row is finite. -/
module

public import proofs.«01_k».proof.Proof.RefValue
public import proofs.«01_k».proof.Proof.Gen.Pre_labels_groups_and_rows
public import Idealize.ShloMosaic.Lib.ReduceAll

@[expose] public section

noncomputable section

open Idealize.ShloMosaic Idealize.ShloMosaic.TcCoe

namespace Cert.ReferenceIdeal.Value

open Cert.ReferenceIdeal Cert.ReferenceIdeal.Gen Cert.RowMath

/-- A conjunction of bits is one only when both are. -/
theorem andi_one {a b : BitVec 1} (h : IntOp.andi a b = 1#1) : a = 1#1 ∧ b = 1#1 := by
  revert a b
  decide

/-- A word between zero and a hundred, both compared signed, is less than a hundred unsigned. -/
theorem toNat_lt_of_bounds (w : BitVec 32) (h0 : IntOp.cmpi .sge w 0#32 = 1#1) (h1 : IntOp.cmpi .slt w 100#32 = 1#1) : w.toNat < 100 := by
  have h0' : (0#32).sle w = true := by
    by_contra h
    simp [IntOp.cmpi, Bool.eq_false_iff.2 h] at h0
  have h1' : w.slt 100#32 = true := by
    by_contra h
    simp [IntOp.cmpi, Bool.eq_false_iff.2 h] at h1
  have e0 : (0 : ℤ) ≤ w.toInt := by
    have := BitVec.sle_iff_toInt_le.1 h0'
    rwa [show (0#32).toInt = 0 from by decide] at this
  have e1 : w.toInt < 100 := by
    have := BitVec.slt_iff_toInt_lt.1 h1'
    rwa [show (100#32).toInt = 100 from by decide] at this
  have hw := w.isLt
  rw [BitVec.toInt_eq_toNat_cond] at e0 e1
  split_ifs at e0 e1 <;> omega

/-- A sum of marks, as words, is the number of members. -/
theorem fold_marks (g : Fin 100 → Prop) [DecidablePred g] (s : Finset (Fin 100)) :
    s.fold IntOp.addi 0#32 (fun k => if g k then 1#32 else 0#32) = BitVec.ofNat 32 (s.filter g).card := by
  classical
  induction s using Finset.induction_on with
  | empty => rfl
  | insert a s ha ih =>
    rw [Finset.fold_insert ha, ih, Finset.filter_insert]
    by_cases h : g a
    · rw [if_pos h, if_pos h, Finset.card_insert_of_notMem (fun hm => ha (Finset.mem_filter.1 hm).1)]
      show 1#32 + BitVec.ofNat 32 _ = _
      rw [show (1#32 : BitVec 32) = BitVec.ofNat 32 1 from rfl, ← BitVec.ofNat_add, Nat.add_comm]
    · rw [if_neg h, if_neg h]
      show 0#32 + _ = _
      rw [BitVec.zero_add]

/-- The pattern `0x7F800000` denotes `∞`. -/
theorem ofBits_inf : Ideal.ofBits .f32 0x7F800000#32 = ⊤ := by simp [Ideal.ofBits, Ideal.ieee]

variable (x : FVec Ideal S16384x100 .f32) (y : IVec S16384 32) (f : IVec S100 32)

/-- The members each label's coarse class has, as words. -/
def counts : IVec S16384 32 :=
  Host.reduce IntOp.addi (marks y f) (constantI S_ 32 0#32) reducesTo_S16384x100_S16384_d1 h_S_

/-- Each count is the number of fine classes in the label's coarse class. -/
theorem counts_apply (r : Fin 16384) (hy : (y (ix1 r)).toNat < 100) :
    counts y f (ix1 r) = BitVec.ofNat 32 (Finset.univ.filter (SameGroup (fun k => f (ix1 k)) (y (ix1 r)))).card := by
  rw [← fold_marks]
  have h : counts y f (ix1 r) = Finset.univ.fold IntOp.addi 0#32 fun k : Fin 100 => marks y f (ix2 r k) := by
    pointwise [counts]
  rw [h]
  exact Finset.fold_congr fun k _ => marks_apply y f r k hy

/-- The precondition as one bit per row, from the labels, the counts `n` and the rows' greatest scores `v`. -/
def bits (n : IVec S16384 32) (v : FVec Ideal S16384 .f32) : IVec S16384 1 :=
  andi (andi (andi (cmpi .sge y (broadcastInDim S16384 ![] bcast_S_S16384 (constantI S_ 32 0#32)))
      (cmpi .slt y (broadcastInDim S16384 ![] bcast_S_S16384 (constantI S_ 32 100#32))))
      (cmpi .eq n (broadcastInDim S16384 ![] bcast_S_S16384 (constantI S_ 32 5#32))))
    (cmpf .olt (Host.absf v) (broadcastInDim S16384 ![] bcast_S_S16384 (constant S_ .f32 0x7F800000#32)))

/-- A row's bit, as a conjunction over scalars. -/
theorem bits_apply (n : IVec S16384 32) (v : FVec Ideal S16384 .f32) (i : S16384.Idx) (h : bits y n v i = 1#1) :
    IntOp.cmpi .sge (y i) 0#32 = 1#1 ∧ IntOp.cmpi .slt (y i) 100#32 = 1#1 ∧ IntOp.cmpi .eq (n i) 5#32 = 1#1 ∧ max (v i) (-v i) < ⊤ := by
  obtain ⟨h1, h4⟩ := andi_one h
  obtain ⟨h1, h3⟩ := andi_one h1
  obtain ⟨h1, h2⟩ := andi_one h1
  refine ⟨h1, h2, h3, ?_⟩
  have h5 : BitVec.ofBool (decide (max (v i) (-v i) < Ideal.ofBits .f32 0x7F800000#32)) = 1#1 := h4
  rw [ofBits_inf] at h5
  by_contra hn
  rw [decide_eq_false hn] at h5
  exact absurd h5 (by decide)

/-- The conjunction runs over the rows. -/
theorem reducesTo_rows : S16384.ReducesTo [0] S_ := by decide

attribute [local instance] Cert.Pre_labels_groups_and_rows.Gen.facts

/-- The printed precondition is the conjunction of the rows' bits. -/
theorem pre_eq : Cert.Pre_labels_groups_and_rows.fn (F := Ideal) x y f
    = Host.reduce IntOp.andi (bits y (counts y f)
        (Host.reduce (FloatOps.maximumf (F := Ideal)) x (constant S_ .f32 0xFF800000#32) reducesTo_S16384x100_S16384_d1 h_S_)) (constantI S_ 1 1#1) reducesTo_rows h_S_ := by
  unfold Cert.Pre_labels_groups_and_rows.fn Cert.Pre_labels_groups_and_rows.fn_part1
  rfl

/-- Under the precondition, every label is from 0 to 99, its coarse class has exactly five fine classes, and its row's greatest score
    is finite. -/
theorem of_pre (h : Cert.Pre_labels_groups_and_rows.fn (F := Ideal) x y f = fun _ => 1#1) (r : Fin 16384) :
    (y (ix1 r)).toNat < 100 ∧ (Finset.univ.filter (SameGroup (fun k => f (ix1 k)) (y (ix1 r)))).card = 5
      ∧ top (fun k : Fin 100 => x (ix2 r k)) ≠ ⊥ ∧ top (fun k : Fin 100 => x (ix2 r k)) ≠ ⊤ := by
  haveI : Subsingleton S_.Idx := ⟨fun a b => funext fun i => i.elim0⟩
  rw [pre_eq] at h
  have hr := Host.reduce_andi_all _ _ _ _ (fun i => i.elim0) (congrFun h _) (ix1 r)
  obtain ⟨h1, h2, h3, h4⟩ := bits_apply y _ _ (ix1 r) hr
  rw [rowTop_apply] at h4
  have hy := toNat_lt_of_bounds _ h1 h2
  refine ⟨hy, ?_, ?_⟩
  · rw [counts_apply y f r hy] at h3
    have h5 : BitVec.ofNat 32 (Finset.univ.filter (SameGroup (fun k => f (ix1 k)) (y (ix1 r)))).card = 5#32 := by
      by_contra hne
      simp [IntOp.cmpi, beq_eq_false_iff_ne.2 hne] at h3
    have hle : (Finset.univ.filter (SameGroup (fun k => f (ix1 k)) (y (ix1 r)))).card ≤ 100 :=
      (Finset.card_le_univ _).trans (by simp)
    have := congrArg BitVec.toNat h5
    rw [BitVec.toNat_ofNat, Nat.mod_eq_of_lt (by omega)] at this
    exact this
  · constructor
    · intro hb
      rw [hb] at h4
      simp at h4
    · intro hb
      rw [hb] at h4
      simp at h4

end Cert.ReferenceIdeal.Value

end
-- ==== Proof.Equation.lean ====
/- The kernel's total equals the reference's loss.

   Row by row the two numbers are the same real (`kRow_eq_rRow`); the kernel adds them scaled by 1/1638400, lane by lane and point by point, the
   reference adds them over the rows and divides by 16384 and by 100. -/
module

public import proofs.«01_k».proof.Proof.Blocks
public import proofs.«01_k».proof.Proof.Precondition

@[expose] public section

noncomputable section

open Idealize.ShloMosaic Idealize.ShloMosaic.TcCoe Idealize.SL.Sem

namespace Cert.Equation

open Cert.RowMath Cert.KernelIdeal.Value Cert.ReferenceIdeal.Value

/-- Adding lane by lane and point by point is adding over the rows. -/
theorem sum_rows (v : Fin 16384 → ℝ) :
    ∑ l : Fin 1024, ∑ t : Fin 16, v (rowOf t.val t.isLt l) = ∑ r : Fin 16384, v r := by
  rw [Finset.sum_comm, ← Fintype.sum_prod_type' (f := fun (t : Fin 16) (l : Fin 1024) => v (rowOf t.val t.isLt l))]
  refine Fintype.sum_equiv (finProdFinEquiv (m := 16) (n := 1024)) _ _ fun p => congrArg v (Fin.ext ?_)
  show 1024 * p.1.val + p.2.val = p.2.val + 1024 * p.1.val
  exact Nat.add_comm _ _

variable (m : (ℓ : Loc Cert.KernelIdeal.nD Cert.KernelIdeal.τ Cert.KernelIdeal.sig) → Buf (Elt Ideal) ℓ) (c : Dev Cert.KernelIdeal.nD)

/-- The kernel's total is the sum of the reference's rows over 16384 and over 100, when every label is from 0 to 99 and every row's greatest
    score is finite. -/
theorem total_eq (hy : ∀ r : Fin 16384, (labels m c (ix1 r)).toNat < 100)
    (h1 : ∀ r : Fin 16384, top (fun k : Fin 100 => scores m c (ix2 r k)) ≠ ⊥)
    (h2 : ∀ r : Fin 16384, top (fun k : Fin 100 => scores m c (ix2 r k)) ≠ ⊤) :
    total m c = Ideal.div (Ideal.div (∑ r : Fin 16384, rRow eps clip (fun k : Fin 100 => scores m c (ix2 r k))
      (SameGroup (fun k => coarse m c (ix1 k)) (labels m c (ix1 r)))) ((16384 : ℝ) : EReal)) ((100 : ℝ) : EReal) := by
  choose v hk hr using fun r : Fin 16384 => kRow_eq_rRow eps clip (by norm_num [eps]) (by norm_num [clip])
    (fun k : Fin 100 => scores m c (ix2 r k)) (SameGroup (fun k => coarse m c (ix1 k)) (labels m c (ix1 r))) (h1 r) (h2 r)
  have he : oneEps = ((1 + eps : ℝ) : EReal) := by
    unfold oneEps eps
    exact congrArg _ (by norm_num)
  have hl : logClip = ((Real.log clip : ℝ) : EReal) := rfl
  have hlane : ∀ l : Fin 1024, ∑ t ∈ Finset.range 16, lossAt m c l t * scale
      = ((∑ t : Fin 16, v (rowOf t.val t.isLt l) * (1 / 1638400) : ℝ) : EReal) := by
    intro l
    rw [Finset.sum_range, ← sum_coe]
    refine Finset.sum_congr rfl fun t _ => ?_
    rw [lossAt_eq m c l t.val t.isLt (hy _), he, hl, hk, scale, ← EReal.coe_mul]
  unfold total
  simp only [hlane, hr]
  rw [sum_coe, sum_coe, div_coe _ _ (by norm_num), div_coe _ _ (by norm_num)]
  refine congrArg _ ?_
  simp only [← Finset.sum_mul]
  rw [sum_rows]
  ring

end Cert.Equation

end
-- ==== Proof.lean ====
/- The certificate's proof, assembled.

   The frames of the kernel and of its idealization are generated; the reference's follows from its generated run, its signature having no
   semaphores. The preserved constants are entries of the idealization's table. The value claim puts together the kernel's run
   (KernelRun, Blocks), the reference's run and value (RefStages, RefValue), what the precondition says (Precondition) and the equation
   between the two results (Equation). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_labels_groups_and_rows
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference terminates with its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- The three named constants are entries of the idealization's table. -/
theorem preserves : Cert.preserves_Kernel_KernelIdeal :=
  ⟨IdealRules.named_const.statement _ _ _ _ _ rfl, IdealRules.named_const.statement _ _ _ _ _ rfl,
    IdealRules.named_const.statement _ _ _ _ _ rfl⟩

attribute [local instance] Cert.KernelIdeal.Gen.facts Cert.ReferenceIdeal.Gen.facts Cert.Pre_labels_groups_and_rows.Gen.facts

/-- From equal arguments that meet the precondition, the idealized kernel and the idealized reference end with equal results. -/
theorem algebraic : Cert.algebraic_KernelIdeal_ReferenceIdeal_pre_labels_groups_and_rows := by
  intro m g m' g' hpre hargs
  refine ⟨fun c _ => Cert.KernelIdeal.Value.total m c, Cert.KernelIdeal.Value.run m g, ?_⟩
  refine (θ_run _ _ _).mono (fun r h c => ⟨(h c).1.trans ?_, (h c).2⟩) (Cert.ReferenceIdeal.Value.run m' g')
  obtain ⟨e0, e1, e2⟩ := hargs c
  have hp := Cert.ReferenceIdeal.Value.of_pre _ _ _ (hpre c)
  rw [Cert.ReferenceIdeal.Value.res_eq, e0, e1, e2]
  funext i
  rw [Cert.ReferenceIdeal.Value.loss_eq _ _ _ _ (fun r => (hp r).1) (fun r => (hp r).2.1)]
  exact (Cert.Equation.total_eq m c (fun r => (hp r).1) (fun r => (hp r).2.2.1) (fun r => (hp r).2.2.2)).symm

/-- The certificate's claim. -/
theorem claim : Cert.Claim :=
  ⟨Cert.Kernel.Gen.facts, Cert.KernelIdeal.Gen.facts, Cert.ReferenceIdeal.Gen.facts, Cert.Pre_labels_groups_and_rows.Gen.facts,
    fun m g _ => Cert.Kernel.Gen.frame m g, fun m g _ => Cert.KernelIdeal.Gen.frame m g, fun m g _ => Cert.KernelIdeal.Gen.frame m g,
    fun m g _ => reference_frame m g, fun m g _ => reference_frame m g, preserves, algebraic⟩

end Cert.Proof

end
